-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale_log2e" .f32 0x3E0293EE#32 ((((Real.sqrt 128) * (Real.log 2))⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x1024 : Shape := ⟨2, ![1024, 1024]⟩
abbrev S4x1024x32x128 : Shape := ⟨4, ![4, 1024, 32, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S1024x1024 .f32) (main_arg1 : FVec F S1024x1024 .f32) (main_arg2 : FVec F S4x1024x32x128 .f32) (main_arg3 : FVec F S4x1024x32x128 .f32) (main_arg4 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Pre_finite_scores_ReferenceIdeal.lean ====
abbrev S1024x1024 : Shape := ⟨2, ![1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S1024x1024 .f32) (main_arg1 : FVec F S1024x4096 .f32) (main_arg2 : FVec F S4x1024x32x128 .f32) (main_arg3 : FVec F S4x1024x32x128 .f32) (main_arg4 : FVec F S4096x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Kernel.lean ====
abbrev S1024x1024 : Shape := ⟨2, ![1024, 1024]⟩
abbrev S4x1024x32x128 : Shape := ⟨4, ![4, 1024, 32, 128]⟩
abbrev S2x8x1024x128 : Shape := ⟨4, ![2, 8, 1024, 128]⟩
abbrev S3x256x1024 : Shape := ⟨3, ![3, 256, 1024]⟩
abbrev S256x1024 : Shape := ⟨2, ![256, 1024]⟩
abbrev S4x256x1024 : Shape := ⟨3, ![4, 256, 1024]⟩
abbrev S4 : Shape := ⟨1, ![4]⟩
abbrev S3 : Shape := ⟨1, ![3]⟩
abbrev S1 : Shape := ⟨1, ![1]⟩
abbrev S_ : Shape := ⟨0, ![]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S256x128 : Shape := ⟨2, ![256, 128]⟩
abbrev S256 : Shape := ⟨1, ![256]⟩
abbrev S256x1 : Shape := ⟨2, ![256, 1]⟩
abbrev S1x256x1024 : Shape := ⟨3, ![1, 256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S2x8x1024x128, .f32⟩
  | .local _ .vmem, ⟨5, _⟩ => ⟨S2x8x1024x128, .f32⟩
  | .local _ .vmem, ⟨6, _⟩ => ⟨S3x256x1024, .bf16⟩
  | .local _ .vmem, ⟨7, _⟩ => ⟨S256x1024, .bf16⟩
  | .local _ .vmem, ⟨8, _⟩ => ⟨S256x1024, .bf16⟩
  | .local _ .vmem, ⟨9, _⟩ => ⟨S4x256x1024, .bf16⟩
  | .local _ .vmem, ⟨10, _⟩ => ⟨S3x256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32_21 : BitVec 32) (c0_i32_28 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v38 : BitVec 32 := Scalar.addi v2 c4_i32_20
  let v39 : BitVec 32 := Scalar.subi v38 c0_i32_21
  let c4_i32_22 : BitVec 32 := 4#32
  let c0_i32_23 : BitVec 32 := 0#32
  let v40 : BitVec 1 := Scalar.cmpi .eq c4_i32_22 c0_i32_23
  let c1_i32_24 : BitVec 32 := 1#32
  let v41 : BitVec 32 := Scalar.select v40 c1_i32_24 c4_i32_22
  let v42 : BitVec 32 := Scalar.remsi v39 v41
  let c0_i32_26 : BitVec 32 := 0#32
  let v44 : BitVec 1 := Scalar.cmpi .slt v42 c0_i32_26
  let c0_i32_27 : BitVec 32 := 0#32
  let v45 : BitVec 1 := Scalar.cmpi .slt v41 c0_i32_27
  let v46 : BitVec 1 := Scalar.xori v44 v45
  let c0_i32_25 : BitVec 32 := 0#32
  let v43 : BitVec 1 := Scalar.cmpi .ne v42 c0_i32_25
  let v47 : BitVec 1 := Scalar.andi v46 v43
  let v48 : BitVec 32 := Scalar.addi v42 v41
  let v49 : BitVec 32 := Scalar.select v47 v48 v42
  let c0_i32_45 : BitVec 32 := 0#32
  let c8_i32 : BitVec 32 := 8#32
  let v37 : BitVec 32 := Scalar.muli v2 c8_i32
  let v50 : BitVec 32 := Scalar.addi v37 c0_i32_28
  let c0_i32_46 : BitVec 32 := 0#32
  ![v49.toNat, 0, v50.toNat, 0]
def k0_dev1 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_153 : BitVec 32 := 1#32
  let v163 : BitVec 32 := Scalar.muli v14 c1_i32_153
  let v164 : BitVec 32 := Scalar.addi c0_i32_154 v163
  v164.toNat
def k0_dev2 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_156 : BitVec 32 := 1#32
  let v165 : BitVec 32 := Scalar.muli v25 c1_i32_156
  let v166 : BitVec 32 := Scalar.addi c0_i32_157 v165
  v166.toNat
def k0_off2 (d0 : Dev nD) (c0_i32_163 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_162 : BitVec 32 := 4#32
  let v173 : BitVec 32 := Scalar.addi v2 c4_i32_162
  let v174 : BitVec 32 := Scalar.subi v173 c0_i32_163
  let c4_i32_164 : BitVec 32 := 4#32
  let c0_i32_165 : BitVec 32 := 0#32
  let v175 : BitVec 1 := Scalar.cmpi .eq c4_i32_164 c0_i32_165
  let c1_i32_166 : BitVec 32 := 1#32
  let v176 : BitVec 32 := Scalar.select v175 c1_i32_166 c4_i32_164
  let v177 : BitVec 32 := Scalar.remsi v174 v176
  let c0_i32_168 : BitVec 32 := 0#32
  let v179 : BitVec 1 := Scalar.cmpi .slt v177 c0_i32_168
  let c0_i32_169 : BitVec 32 := 0#32
  let v180 : BitVec 1 := Scalar.cmpi .slt v176 c0_i32_169
  let v181 : BitVec 1 := Scalar.xori v179 v180
  let c0_i32_167 : BitVec 32 := 0#32
  let v178 : BitVec 1 := Scalar.cmpi .ne v177 c0_i32_167
  let v182 : BitVec 1 := Scalar.andi v181 v178
  let v183 : BitVec 32 := Scalar.addi v177 v176
  let v184 : BitVec 32 := Scalar.select v182 v183 v177
  let c256_i32 : BitVec 32 := 256#32
  let v185 : BitVec 32 := Scalar.muli v184 c256_i32
  let v186 : Index := Scalar.indexCast v185
  let c0_170 : Index := 0#32
  ![v186.toNat, 0]
def k0_off3 (c0_i32_422 : BitVec 32) : Fin 2 → Nat :=
  let c0_423 : Index := 0#32
  let c128_i32 : BitVec 32 := 128#32
  let v417 : BitVec 32 := Scalar.muli c0_i32_422 c128_i32
  let v418 : Index := Scalar.indexCast v417
  ![0, v418.toNat]
def k0_dev3 (d0 : Dev nD) : Nat :=
  let c0_i32_547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_546 : BitVec 32 := 1#32
  let v626 : BitVec 32 := Scalar.muli v25 c1_i32_546
  let v627 : BitVec 32 := Scalar.addi c0_i32_547 v626
  v627.toNat
def k0_dev4 (d0 : Dev nD) : Nat :=
  let c0_i32_952 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_951 : BitVec 32 := 1#32
  let v1101 : BitVec 32 := Scalar.muli v25 c1_i32_951
  let v1102 : BitVec 32 := Scalar.addi c0_i32_952 v1101
  v1102.toNat
def k0_off4 (d0 : Dev nD) (c0_i32_1090 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1083 : BitVec 32 := 1#32
  let v1231 : BitVec 32 := Scalar.addi v2 c1_i32_1083
  let c4_i32_1084 : BitVec 32 := 4#32
  let c0_i32_1085 : BitVec 32 := 0#32
  let v1232 : BitVec 1 := Scalar.cmpi .eq c4_i32_1084 c0_i32_1085
  let c1_i32_1086 : BitVec 32 := 1#32
  let v1233 : BitVec 32 := Scalar.select v1232 c1_i32_1086 c4_i32_1084
  let v1234 : BitVec 32 := Scalar.remsi v1231 v1233
  let c0_i32_1088 : BitVec 32 := 0#32
  let v1236 : BitVec 1 := Scalar.cmpi .slt v1234 c0_i32_1088
  let c0_i32_1089 : BitVec 32 := 0#32
  let v1237 : BitVec 1 := Scalar.cmpi .slt v1233 c0_i32_1089
  let v1238 : BitVec 1 := Scalar.xori v1236 v1237
  let c0_i32_1087 : BitVec 32 := 0#32
  let v1235 : BitVec 1 := Scalar.cmpi .ne v1234 c0_i32_1087
  let v1239 : BitVec 1 := Scalar.andi v1238 v1235
  let v1240 : BitVec 32 := Scalar.addi v1234 v1233
  let v1241 : BitVec 32 := Scalar.select v1239 v1240 v1234
  let c0_i32_1111 : BitVec 32 := 0#32
  let c8_i32 : BitVec 32 := 8#32
  let v37 : BitVec 32 := Scalar.muli v2 c8_i32
  let v1242 : BitVec 32 := Scalar.addi v37 c0_i32_1090
  let c0_i32_1112 : BitVec 32 := 0#32
  ![v1241.toNat, 0, v1242.toNat, 0]
def k0_dev5 (d0 : Dev nD) : Nat :=
  let c0_i32_1356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1355 : BitVec 32 := 1#32
  let v1575 : BitVec 32 := Scalar.muli v25 c1_i32_1355
  let v1576 : BitVec 32 := Scalar.addi c0_i32_1356 v1575
  v1576.toNat
def k0_off5 (d0 : Dev nD) (c1_i32_1361 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1585 : BitVec 32 := Scalar.addi v2 c1_i32_1361
  let c4_i32_1362 : BitVec 32 := 4#32
  let c0_i32_1363 : BitVec 32 := 0#32
  let v1586 : BitVec 1 := Scalar.cmpi .eq c4_i32_1362 c0_i32_1363
  let c1_i32_1364 : BitVec 32 := 1#32
  let v1587 : BitVec 32 := Scalar.select v1586 c1_i32_1364 c4_i32_1362
  let v1588 : BitVec 32 := Scalar.remsi v1585 v1587
  let c0_i32_1366 : BitVec 32 := 0#32
  let v1590 : BitVec 1 := Scalar.cmpi .slt v1588 c0_i32_1366
  let c0_i32_1367 : BitVec 32 := 0#32
  let v1591 : BitVec 1 := Scalar.cmpi .slt v1587 c0_i32_1367
  let v1592 : BitVec 1 := Scalar.xori v1590 v1591
  let c0_i32_1365 : BitVec 32 := 0#32
  let v1589 : BitVec 1 := Scalar.cmpi .ne v1588 c0_i32_1365
  let v1593 : BitVec 1 := Scalar.andi v1592 v1589
  let v1594 : BitVec 32 := Scalar.addi v1588 v1587
  let v1595 : BitVec 32 := Scalar.select v1593 v1594 v1588
  let c256_i32_1368 : BitVec 32 := 256#32
  let v1596 : BitVec 32 := Scalar.muli v1595 c256_i32_1368
  let v1597 : Index := Scalar.indexCast v1596
  let c0_1369 : Index := 0#32
  ![v1597.toNat, 0]
def k0_dev6 (d0 : Dev nD) : Nat :=
  let c0_i32_1624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1623 : BitVec 32 := 1#32
  let v1925 : BitVec 32 := Scalar.muli v25 c1_i32_1623
  let v1926 : BitVec 32 := Scalar.addi c0_i32_1624 v1925
  v1926.toNat
def k0_dev7 (d0 : Dev nD) : Nat :=
  let c0_i32_1634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1633 : BitVec 32 := 1#32
  let v1935 : BitVec 32 := Scalar.muli v14 c1_i32_1633
  let v1936 : BitVec 32 := Scalar.addi c0_i32_1634 v1935
  v1936.toNat
def k0_dev8 (d0 : Dev nD) : Nat :=
  let c0_i32_1644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_1643 : BitVec 32 := 1#32
  let v1945 : BitVec 32 := Scalar.muli v36 c1_i32_1643
  let v1946 : BitVec 32 := Scalar.addi c0_i32_1644 v1945
  v1946.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some ((((Real.sqrt 128) * (Real.log 2))⁻¹ : ℝ) : EReal)
  | _ => none
-- ==== ReferenceIdeal.lean ====
abbrev S1024x1024 : Shape := ⟨2, ![1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x256x1024 : Shape := ⟨3, ![4, 256, 1024]⟩
abbrev S4x256x4096 : Shape := ⟨3, ![4, 256, 4096]⟩
abbrev S4x256x32x128 : Shape := ⟨4, ![4, 256, 32, 128]⟩
abbrev S_ : Shape := ⟨0, ![]⟩
abbrev S4x32x256x1 : Shape := ⟨4, ![4, 32, 256, 1]⟩
abbrev S4x32x256x1024 : Shape := ⟨4, ![4, 32, 256, 1024]⟩
abbrev S4x32x256 : Shape := ⟨3, ![4, 32, 256]⟩
abbrev S4x256x32x1 : Shape := ⟨4, ![4, 256, 32, 1]⟩
abbrev S4x32x128x256 : Shape := ⟨4, ![4, 32, 128, 256]⟩

abbrev nBuf : Space → Nat
  | .hbm => 45
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x256x1024, .f32⟩
  | .hbm, ⟨6, _⟩ => ⟨S4x256x4096, .f32⟩
  | .hbm, ⟨7, _⟩ => ⟨S4x256x32x128, .f32⟩
  | .hbm, ⟨8, _⟩ => ⟨S_, .f32⟩
  | .hbm, ⟨9, _⟩ => ⟨S4x256x32x128, .f32⟩
  | .hbm, ⟨10, _⟩ => ⟨S_, .f32⟩
  | .hbm, ⟨11, _⟩ => ⟨S4x32x256x1, .f32⟩
  | .hbm, ⟨12, _⟩ => ⟨S_, .f32⟩
  | .hbm, ⟨13, _⟩ => ⟨S4x32x256x1, .f32⟩
  | .hbm, ⟨14, _⟩ => ⟨S4x32x256x1024, .f32⟩
  | .hbm, ⟨15, _⟩ => ⟨S_, .f32⟩
  | .hbm, ⟨16, _⟩ => ⟨S_, .f32⟩
  | .hbm, ⟨17, _⟩ => ⟨S4x32x256x1024, .f32⟩
  | .hbm, ⟨18, _⟩ => ⟨S4x32x256x1024, .f32⟩
  | .hbm, ⟨19, _⟩ => ⟨S_, .f32⟩
  | .hbm, ⟨20, _⟩ => ⟨S4x32x256, .f32⟩
  | .hbm, ⟨21, _⟩ => ⟨S4x32x256x1, .f32⟩
  | .hbm, ⟨22, _⟩ => ⟨S4x32x256x1, .f32⟩
  | .hbm, ⟨23, _⟩ => ⟨S4x32x256x1, .f32⟩
  | .hbm, ⟨24, _⟩ => ⟨S4x32x256x1, .f32⟩
  | .hbm, ⟨25, _⟩ => ⟨S4x32x256x1024, .f32⟩
  | .hbm, ⟨26, _⟩ => ⟨S4x32x256x1024, .f32⟩
  | .hbm, ⟨27, _⟩ => ⟨S4x32x256x1024, .f32⟩
  | .hbm, ⟨28, _⟩ => ⟨S4x32x256x1, .f32⟩
  | .hbm, ⟨29, _⟩ => ⟨S_, .f32⟩
  | .hbm, ⟨30, _⟩ => ⟨S4x32x256, .f32⟩
  | .hbm, ⟨31, _⟩ => ⟨S4x32x256x1, .f32⟩
  | .hbm, ⟨32, _⟩ => ⟨S4x32x256x1, .f32⟩
  | .hbm, ⟨33, _⟩ => ⟨S4x256x32x1, .f32⟩
  | .hbm, ⟨34, _⟩ => ⟨S4x256x32x128, .f32⟩
  | .hbm, ⟨35, _⟩ => ⟨S4x256x32x128, .f32⟩
  | .hbm, ⟨36, _⟩ => ⟨S4x32x128x256, .f32⟩
  | .hbm, ⟨37, _⟩ => ⟨S4x256x32x128, .f32⟩
  | .hbm, ⟨38, _⟩ => ⟨S4x256x32x128, .f32⟩
  | .hbm, ⟨39, _⟩ => ⟨S4x256x32x1, .f32⟩
  | .hbm, ⟨40, _⟩ => ⟨S4x256x32x128, .f32⟩
  | .hbm, ⟨41, _⟩ => ⟨S4x256x32x128, .f32⟩
  | .hbm, ⟨42, _⟩ => ⟨S4x256x4096, .f32⟩
  | .hbm, ⟨43, _⟩ => ⟨S4x256x1024, .f32⟩
  | .hbm, ⟨44, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Prog.lean ====
module
public import proofs.«01_k».proof.Proof.Gen.KernelIdeal.Points
public import proofs.«01_k».proof.Proof.Gen.KernelIdeal.Launch
public import proofs.«01_k».proof.Proof.Gen.KernelIdeal.Skeleton

/-! The kernel's body, written as a short program of named steps, and the proof that the body is it. -/

@[expose] public section

noncomputable section

namespace Cert.KernelIdeal.Attn

open Idealize.ShloMosaic Idealize.SL.Sem Cert.KernelIdeal Cert.KernelIdeal.Gen

variable {F : FTy → Type} [FloatOps F] [Named F]

/-- The programs of this module. -/
abbrev P (F : FTy → Type) (α : Type) := Prog (TpuEff nD τ sig (Elt F) Λ₀ .tc) α

abbrev xM : Memref sig .tc .vmem S1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S4x1024x32x128 .f32 := Memref.whole main_arg2
abbrev vM : Memref sig .tc .hbm S4x1024x32x128 .f32 := Memref.whole main_arg3
abbrev outM : Memref sig .tc .vmem S1024x1024 .f32 := Memref.whole cc0_stg3_0
abbrev kbM : Memref sig .tc .vmem S2x8x1024x128 .f32 := Memref.whole cc0_scratch0
abbrev vbM : Memref sig .tc .vmem S2x8x1024x128 .f32 := Memref.whole cc0_scratch1
abbrev commM : Memref sig .tc .vmem S3x256x1024 .bf16 := Memref.whole cc0_scratch2
abbrev qM : Memref sig .tc .vmem S256x1024 .bf16 := Memref.whole cc0_scratch3
abbrev aM : Memref sig .tc .vmem S256x1024 .bf16 := Memref.whole cc0_scratch4
abbrev stM : Memref sig .tc .vmem S4x256x1024 .bf16 := Memref.whole cc0_scratch5
abbrev bcM : Memref sig .tc .vmem S3x256x1024 .bf16 := Memref.whole cc0_scratch6

theorem inb_kvb : ∀ (s : Fin 2) (h : Fin 8) (a), (![s.val, h.val, 0, 0] : Fin 4 → ℕ) a + S1x1x1024x128.size a ≤ S2x8x1024x128.size a := by
  decide +kernel
theorem inb_sem4 : ∀ (i : Fin 4) (a), (![i.val] : Fin 1 → ℕ) a + S1.size a ≤ S4.size a := by decide +kernel
theorem inb_sem3 : ∀ (i : Fin 3) (a), (![i.val] : Fin 1 → ℕ) a + S1.size a ≤ S3.size a := by decide +kernel
theorem inb_three : ∀ (k : Fin 3) (a), (![k.val, 0, 0] : Fin 3 → ℕ) a + S1x256x1024.size a ≤ S3x256x1024.size a := by decide +kernel
theorem inb_four : ∀ (k : Fin 4) (a), (![k.val, 0, 0] : Fin 3 → ℕ) a + S1x256x1024.size a ≤ S4x256x1024.size a := by decide +kernel

/-- The slice of a buffer of heads that head `h` of slot `s` fills. -/
abbrev kvbR (s : Fin 2) (h : Fin 8) : Rect S2x8x1024x128 := Rect.unit (s := S2x8x1024x128) ![s.val, h.val, 0, 0] S1x1x1024x128.size (inb_kvb s h)
/-- One plane of a buffer of three. -/
abbrev threeR (k : Fin 3) : Rect S3x256x1024 := Rect.unit (s := S3x256x1024) ![k.val, 0, 0] S1x256x1024.size (inb_three k)
/-- One plane of a buffer of four. -/
abbrev fourR (k : Fin 4) : Rect S4x256x1024 := Rect.unit (s := S4x256x1024) ![k.val, 0, 0] S1x256x1024.size (inb_four k)
/-- The columns of head `h`. -/
abbrev headR (h : Fin 8) : Rect S256x1024 := Rect.unit (s := S256x1024) (k0_off3 (BitVec.ofNat 32 h.val)) S256x128.size (k0_off3_inb h)

theorem packed_four : ∀ k : Fin 4, (fourR k).PackedRows (EltTy.packing .bf16) := by decide +kernel
theorem words_four : ∀ k : Fin 4, (fourR k).WholeWords (EltTy.packing .bf16) := by decide +kernel
theorem words_three : ∀ k : Fin 3, (threeR k).WholeWords (EltTy.packing .bf16) := by decide +kernel

/-- Head `h` of slot `s` of a buffer of heads, as a matrix. -/
abbrev kvbS (m : Memref sig .tc .vmem S2x8x1024x128 .f32) (s : Fin 2) (h : Fin 8) : Memref sig .tc .vmem S1024x128 .f32 :=
  (m.slice (kvbR s h) (fun _ => rfl)).squeeze S1024x128 squeezes_S1x1x1024x128_S1024x128
abbrev threeS (m : Memref sig .tc .vmem S3x256x1024 .bf16) (k : Fin 3) : Memref sig .tc .vmem S256x1024 .bf16 :=
  (m.slice (threeR k) (fun _ => rfl)).squeeze S256x1024 squeezes_S1x256x1024_S256x1024
abbrev fourS (m : Memref sig .tc .vmem S4x256x1024 .bf16) (k : Fin 4) : Memref sig .tc .vmem S256x1024 .bf16 :=
  (m.slice (fourR k) (fun _ => rfl)).squeeze S256x1024 squeezes_S1x256x1024_S256x1024
abbrev sem4 (i : Fin 4) : DmaSem sig := ((cc0_scratch7.slice (Rect.unit (s := S4) ![i.val] S1.size (inb_sem4 i))).squeeze S_ squeezes_S1_S_).sem
abbrev sem3 (a : DmaSems sig S3) (i : Fin 3) : DmaSem sig := ((a.slice (Rect.unit (s := S3) ![i.val] S1.size (inb_sem3 i))).squeeze S_ squeezes_S1_S_).sem

/-- Where one step's heads lie in the keys and values. -/
structure Offs where
  off : Fin 8 → Fin 4 → ℕ
  inb : ∀ h a, off h a + S1x1024x1x128.size a ≤ S4x1024x32x128.size a

/-- Head `h` of the batch at `o`, as a matrix. -/
abbrev srcS (m : Memref sig .tc .hbm S4x1024x32x128 .f32) (o : Offs) (h : Fin 8) : Memref sig .tc .hbm S1024x128 .f32 :=
  (m.slice (Rect.unit (s := S4x1024x32x128) (o.off h) S1x1024x1x128.size (o.inb h)) (fun _ => rfl)).squeeze S1024x128 squeezes_S1x1024x1x128_S1024x128

/-- A step's rows of the input and of the result. -/
structure Rows where
  off : Fin 2 → ℕ
  inb : ∀ a, off a + S256x1024.size a ≤ S1024x1024.size a

abbrev Rows.rect (o : Rows) : Rect S1024x1024 := Rect.unit (s := S1024x1024) o.off S256x1024.size o.inb

def slotSem (s : Fin 2) (v : Fin 2) : DmaSem sig := sem4 ⟨2 * s.val + v.val, by omega⟩

/-- Start the copies of head `h`'s keys and values, then go on. -/
def issue1 (s : Fin 2) (o : Offs) (h : Fin 8) (K : P F PUnit) : P F PUnit :=
  .op (.enqueueDma (srcS kM o h) (.here (kvbS kbM s h)) (.dma (slotSem s 0)) ((View.wordExact_bits rfl).reshape _ _) ((View.wordExact_bits rfl).reshape _ _) ⟨Or.inl rfl, trivial⟩) fun _ =>
  .op (.enqueueDma (srcS vM o h) (.here (kvbS vbM s h)) (.dma (slotSem s 1)) ((View.wordExact_bits rfl).reshape _ _) ((View.wordExact_bits rfl).reshape _ _) ⟨Or.inl rfl, trivial⟩) fun _ => K

/-- Wait for the copies of head `h`'s keys and values, then go on. -/
def wait1 (s : Fin 2) (o : Offs) (h : Fin 8) (K : P F PUnit) : P F PUnit :=
  .op (.waitDma2 (slotSem s 0) (srcS kM o h) (kvbS kbM s h) ((View.wordExact_bits rfl).reshape _ _) ((View.wordExact_bits rfl).reshape _ _)) fun _ =>
  .op (.waitDma2 (slotSem s 1) (srcS vM o h) (kvbS vbM s h) ((View.wordExact_bits rfl).reshape _ _) ((View.wordExact_bits rfl).reshape _ _)) fun _ => K

/-- Run a step for each of the eight heads, in order, then go on. -/
def each (f : Fin 8 → P F PUnit → P F PUnit) (K : P F PUnit) : P F PUnit :=
  f 0 <| f 1 <| f 2 <| f 3 <| f 4 <| f 5 <| f 6 <| f 7 K

/-- The queries of one step. -/
def qStep (wq : FVec F S1024x1024 .bf16) (r : Rows) (K : P F PUnit) : P F PUnit :=
  .op (.load xM r.rect.toLoadRect (View.loadsAt_vmem h_S256x1024)) fun (x : Vec F S256x1024 .f32) =>
  .op (.load qM (Rect.unit (s := S256x1024) ![0, 0] S256x1024.size inb_S256x1024_S256x1024_0_0).toLoadRect (View.loadsAt_vmem h_S256x1024)) fun (_ : Vec F S256x1024 .bf16) =>
  .op (.store qM (Rect.unit (s := S256x1024) ![0, 0] S256x1024.size inb_S256x1024_S256x1024_0_0) (k0_pay20 wq x) Finset.univ (View.stores_vmem h_S256x1024 ((Memref.isWhole_whole cc0_scratch3).storeExact_slice rfl _ packedbf16_S256x1024_S256x1024_0_0) (fun _ => rfl)) (.inl rfl)) fun _ => K

/-- One head of one step. -/
def headStep (s : Fin 2) (h : Fin 8) (K : P F PUnit) : P F PUnit :=
  .op (.load qM (headR h).toLoadRect (View.loadsAt_vmem h_S256x128)) fun (q : Vec F S256x128 .bf16) =>
  .op (.load kbM (kvbR s h).toLoadRect (View.loadsAt_vmem h_S1x1x1024x128)) fun (k : Vec F S1x1x1024x128 .f32) =>
  .op (.load vbM (kvbR s h).toLoadRect (View.loadsAt_vmem h_S1x1x1024x128)) fun (v : Vec F S1x1x1024x128 .f32) =>
  .op (.load aM (headR h).toLoadRect (View.loadsAt_vmem h_S256x128)) fun (_ : Vec F S256x128 .bf16) =>
  .op (.store aM (headR h) (k0_pay5 q k v) Finset.univ (View.stores_vmem h_S256x128 ((Memref.isWhole_whole cc0_scratch4).storeExact_slice rfl _ (k0_off3_packedbf16 h)) (fun _ => rfl)) (.inl rfl)) fun _ => K

/-- The heads' outputs, all of them. -/
def loadAttn (K : Vec F S256x1024 .bf16 → P F PUnit) : P F PUnit :=
  .op (.load aM (Rect.unit (s := S256x1024) ![0, 0] S256x1024.size inb_S256x1024_S256x1024_0_0).toLoadRect (View.loadsAt_vmem h_S256x1024)) fun (a : Vec F S256x1024 .bf16) => K a

/-- Store one chunk of the result. -/
def storeOut (r : Rows) (w : FVec F S256x1024 .f32) (K : P F PUnit) : P F PUnit :=
  .op (.load outM r.rect.toLoadRect (View.loadsAt_vmem h_S256x1024)) fun (_ : Vec F S256x1024 .f32) =>
  .op (.store outM r.rect w Finset.univ (View.stores_vmem_bits_univ h_S256x1024 rfl) (.inl rfl)) fun _ => K

/-- Stage one chunk for sending. -/
def storeStage (j : Fin 4) (w : FVec F S256x1024 .f32) (K : P F PUnit) : P F PUnit :=
  .op (.load stM (fourR j).toLoadRect (View.loadsAt_vmem h_S1x256x1024)) fun (_ : Vec F S1x256x1024 .bf16) =>
  .op (.store stM (fourR j) (k0_pay35 w) Finset.univ (View.stores_vmem h_S1x256x1024 ((Memref.isWhole_whole cc0_scratch5).storeExact_slice rfl _ (packed_four j)) (fun _ => rfl)) (.inl rfl)) fun _ => K

/-- Send staged chunk `j` into plane `k` of the buffer `m` of device `dst`. -/
def send (j : Fin 4) (m : Memref sig .tc .vmem S3x256x1024 .bf16) (hm : m.IsWhole) (k : Fin 3) (ss rs : DmaSems sig S3) (dst : Dev nD) (K : P F PUnit) : P F PUnit :=
  .op (.enqueueDma (fourS stM j) (.remote (Dev.tc dst) (threeS m k) (.dma (sem3 ss k))) (.dma (sem3 rs k))
    (((Memref.isWhole_whole cc0_scratch5).wordExact_slice rfl _ (words_four j)).reshape _ _) ((hm.wordExact_slice rfl _ (words_three k)).reshape _ _) ⟨⟨rfl, Or.inl rfl⟩, trivial⟩) fun _ => K

/-- Wait until plane `k` of the buffer `m` has arrived. -/
def waitRecv (j : Fin 4) (m : Memref sig .tc .vmem S3x256x1024 .bf16) (hm : m.IsWhole) (k : Fin 3) (rs : DmaSems sig S3) (K : P F PUnit) : P F PUnit :=
  .op (.waitDma2 (sem3 rs k) (fourS stM j) (threeS m k)
    (((Memref.isWhole_whole cc0_scratch5).wordExact_slice rfl _ (words_four j)).reshape _ _) ((hm.wordExact_slice rfl _ (words_three k)).reshape _ _)) fun _ => K

/-- Wait until staged chunk `j` has left. -/
def waitSend (j : Fin 4) (m : Memref sig .tc .vmem S3x256x1024 .bf16) (hm : m.IsWhole) (k : Fin 3) (ss : DmaSems sig S3) (K : P F PUnit) : P F PUnit :=
  .op (.waitDma2 (sem3 ss k) (threeS m k) (fourS stM j)
    ((hm.wordExact_slice rfl _ (words_three k)).reshape _ _) (((Memref.isWhole_whole cc0_scratch5).wordExact_slice rfl _ (words_four j)).reshape _ _)) fun _ => K

/-- What plane `k` of a buffer of three holds. -/
def loadThree (m : Memref sig .tc .vmem S3x256x1024 .bf16) (k : Fin 3) (K : Vec F S1x256x1024 .bf16 → P F PUnit) : P F PUnit :=
  .op (.load m (threeR k).toLoadRect (View.loadsAt_vmem h_S1x256x1024)) fun (c : Vec F S1x256x1024 .bf16) => K c

abbrev hcomm : commM.IsWhole := Memref.isWhole_whole _
abbrev hbc : bcM.IsWhole := Memref.isWhole_whole _

/-- The heads of step `j`: the batch of the step is `my - j`, for the last `my + 1`. -/
def offA (d : Dev nD) (j : Fin 3) : Offs := ⟨fun h => k0_off1 d (BitVec.ofNat 32 j.val) (BitVec.ofNat 32 h.val), k0_off1_inb d j⟩
def offB (d : Dev nD) : Offs := ⟨fun h => k0_off4 d (BitVec.ofNat 32 h.val), k0_off4_inb d⟩
/-- The rows of step `j`. -/
def rowA (d : Dev nD) (j : Fin 3) : Rows := ⟨k0_off2 d (BitVec.ofNat 32 j.val), k0_off2_inb d j⟩
/-- The rows of the chunk `k` places after the device's own number. -/
def rowB (d : Dev nD) (k : Fin 4) : Rows := ⟨k0_off5 d (BitVec.ofNat 32 k.val), k0_off5_inb d k⟩

abbrev barSem : Sem sig := (SemArray.scalar (sig.barrier 0 rfl) : Sems sig S_).sem

/-- The handshake with both neighbours. -/
def handshake (d : Dev nD) (K : P F PUnit) : P F PUnit :=
  .op (.semSignal ((⟨k0_dev1 d, k0_dev1_lt d⟩ : Dev nD), .tc) barSem (1#32).toInt) fun _ =>
  .op (.semSignal ((⟨k0_dev2 d, k0_dev2_lt d⟩ : Dev nD), .tc) barSem (1#32).toInt) fun _ =>
  .op (.semWait barSem (2#32).toInt) fun _ => K

/-- A step up to the heads' outputs: the queries, the wait for this step's heads, the next step's copies, the heads. -/
def attnStep (wq : FVec F S1024x1024 .bf16) (r : Rows) (s : Fin 2) (o : Offs) (next : P F PUnit → P F PUnit)
    (K : Vec F S256x1024 .bf16 → P F PUnit) : P F PUnit :=
  qStep wq r <| each (wait1 s o) <| next <| each (headStep s) <| loadAttn K

/-- A chunk stored into the result and staged. -/
def keep (r : Rows) (j : Fin 4) (w : FVec F S256x1024 .f32) (K : P F PUnit) : P F PUnit :=
  storeOut r w <| storeStage j w K

/-- The ring part of a later step: the chunk arrived from the neighbour is added to the step's own. -/
def ringStep (r : Rows) (j : Fin 4) (k : Fin 3) (i : Fin 4) (wo : FVec F S1024x1024 .bf16) (a : Vec F S256x1024 .bf16) (K : P F PUnit) : P F PUnit :=
  waitRecv i commM hcomm k cc0_scratch9 <| loadThree commM k fun c => keep r j (k0_pay34 wo a c) K

/-- Take one broadcast chunk into the result. -/
def takeChunk (k : Fin 3) (r : Rows) (K : P F PUnit) : P F PUnit :=
  waitRecv 3 bcM hbc k cc0_scratch11 <| loadThree bcM k fun c => storeOut r (k0_pay68 c) K

/-- Wait for everything sent. -/
def drain : P F PUnit :=
  waitSend 0 commM hcomm 0 cc0_scratch8 <|
  waitSend 1 commM hcomm 1 cc0_scratch8 <|
  waitSend 2 commM hcomm 2 cc0_scratch8 <|
  waitSend 3 bcM hbc 0 cc0_scratch10 <|
  waitSend 3 bcM hbc 1 cc0_scratch10 <|
  waitSend 3 bcM hbc 2 cc0_scratch10 <| .ret ⟨⟩

/-- The broadcast of the device's own finished chunk, and the others' chunks taken in. -/
def broadcastOwn (d : Dev nD) : P F PUnit :=
  send 3 bcM hbc 0 cc0_scratch10 cc0_scratch11 ⟨k0_dev6 d, k0_dev6_lt d⟩ <|
  send 3 bcM hbc 1 cc0_scratch10 cc0_scratch11 ⟨k0_dev7 d, k0_dev7_lt d⟩ <|
  send 3 bcM hbc 2 cc0_scratch10 cc0_scratch11 ⟨k0_dev8 d, k0_dev8_lt d⟩ <|
  takeChunk 0 (rowB d 0) <|
  takeChunk 1 (rowB d 2) <|
  takeChunk 2 (rowB d 3) drain

/-- The last step. -/
def step3 (d : Dev nD) (wq wo : FVec F S1024x1024 .bf16) : P F PUnit :=
  attnStep wq (rowB d 1) 1 (offB d) (fun K => K) fun a =>
  ringStep (rowB d 1) 3 2 2 wo a <| broadcastOwn d

def step2 (d : Dev nD) (wq wo : FVec F S1024x1024 .bf16) : P F PUnit :=
  attnStep wq (rowA d 2) 0 (offA d 2) (each (issue1 1 (offB d))) fun a =>
  ringStep (rowA d 2) 2 1 1 wo a <|
  send 2 commM hcomm 2 cc0_scratch8 cc0_scratch9 ⟨k0_dev5 d, k0_dev5_lt d⟩ <| step3 d wq wo

def step1 (d : Dev nD) (wq wo : FVec F S1024x1024 .bf16) : P F PUnit :=
  attnStep wq (rowA d 1) 1 (offA d 1) (each (issue1 0 (offA d 2))) fun a =>
  ringStep (rowA d 1) 1 0 0 wo a <|
  send 1 commM hcomm 1 cc0_scratch8 cc0_scratch9 ⟨k0_dev4 d, k0_dev4_lt d⟩ <| step2 d wq wo

/-- The first step: its chunk is staged and sent on. -/
def step0 (d : Dev nD) (wq wo : FVec F S1024x1024 .bf16) : P F PUnit :=
  attnStep wq (rowA d 0) 0 (offA d 0) (each (issue1 1 (offA d 1))) fun a =>
  keep (rowA d 0) 0 (k0_pay18 wo a) <|
  send 0 commM hcomm 0 cc0_scratch8 cc0_scratch9 ⟨k0_dev3 d, k0_dev3_lt d⟩ <| step1 d wq wo

/-- What follows the handshake. -/
def rest (d : Dev nD) : P F PUnit :=
  .op (.load wqM (Rect.unit (s := S1024x1024) ![0, 0] S1024x1024.size inb_S1024x1024_S1024x1024_0_0).toLoadRect (View.loadsAt_vmem h_S1024x1024)) fun (w : Vec F S1024x1024 .f32) =>
  .op (.load woM (Rect.unit (s := S1024x1024) ![0, 0] S1024x1024.size inb_S1024x1024_S1024x1024_0_0).toLoadRect (View.loadsAt_vmem h_S1024x1024)) fun (u : Vec F S1024x1024 .f32) =>
  step0 d (k0_pay2 (k0_pay1 w)) (k0_pay3 u)

/-- The whole body. -/
def prog : P F PUnit :=
  .op .deviceId fun (d : Dev nD) => each (issue1 0 (offA d 0)) <| handshake d <| rest d

set_option maxRecDepth 65536 in
set_option maxHeartbeats 0 in
/-- The kernel's body is this program. -/
theorem body_eq (t : Fin cfg0.N) : bodyAt0 (F := F) t = prog (F := F) := by
  rw [fin_N0 t]
  exact (rfl : bodyAt0 (F := F) t0_0 = prog (F := F))

end Cert.KernelIdeal.Attn
-- ==== Proof.Own.lean ====
module
public import Idealize.ShloMosaic.PureOps
public import Idealize.ShloMosaic.Harness.Basic
public import Idealize.ShloMosaic.Lib.Batch
public import Idealize.ShloMosaic.Lib.Memref
public import Idealize.ShloMosaic.Lib.MemrefSat
public import Idealize.ShloMosaic.Lib.ViewIndex
public import Idealize.ShloMosaic.Lib.Rounds
public import Idealize.ShloMosaic.Lib.Pipeline.Kit

/-! Loads, stores and transfers on memrefs owned at known contents. Nothing here is about one kernel. -/

@[expose] public section

noncomputable section

namespace Cert.Own

open Idealize.ShloMosaic
open Idealize.SL
open Idealize.SL.BI (sProp bigSep Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-! ## Squeezed memrefs -/

/-- A squeezed memref is owned at the re-indexed contents. -/
theorem owns_squeeze (c : Thread nD τ) {sp : Space} {s s' : Shape} {e : EltTy} (m : Memref sig c.2.kind sp s e) (h : s.Squeezes s')
    (q : PosShare TreeShare) (X : s.Idx → Val e) :
    (owns c (m.squeeze s' h) q (fun j => X (Shape.reshapeEquiv h.numel_eq j)) : sProp 𝕄) = owns c m q X := by
  unfold owns
  have hread (f : m.view.ty.Contents Val) :
      (m.squeeze s' h).view.read Val f = (fun j => m.view.read Val f (Shape.reshapeEquiv h.numel_eq j)) := rfl
  have hiff (f : m.view.ty.Contents Val) :
      ((m.squeeze s' h).view.read Val f = fun j => X (Shape.reshapeEquiv h.numel_eq j)) ↔ m.view.read Val f = X := by
    rw [hread]
    constructor
    · intro hf
      funext i
      have := congrFun hf ((Shape.reshapeEquiv h.numel_eq).symm i)
      simpa only [Equiv.apply_symm_apply] using this
    · rintro rfl; rfl
  have hset : (m.squeeze s' h).view.set = m.view.set := m.view.set_reshape h.numel_eq
  have h₁ : iprop(∃ f, ⌜(m.squeeze s' h).view.read Val f = fun j => X (Shape.reshapeEquiv h.numel_eq j)⌝
        ∗ ((m.squeeze s' h).view.loc c ↦[(m.squeeze s' h).view.set]{q} f))
      ⊢ (iprop(∃ f, ⌜m.view.read Val f = X⌝ ∗ (m.view.loc c ↦[m.view.set]{q} f)) : sProp 𝕄) := by
    iintro ⟨%f, %hf, H⟩
    iexists f
    isplitr; · ipureintro; exact (hiff f).mp hf
    rw [← hset]; iexact H
  have h₂ : iprop(∃ f, ⌜m.view.read Val f = X⌝ ∗ (m.view.loc c ↦[m.view.set]{q} f))
      ⊢ (iprop(∃ f, ⌜(m.squeeze s' h).view.read Val f = fun j => X (Shape.reshapeEquiv h.numel_eq j)⌝
        ∗ ((m.squeeze s' h).view.loc c ↦[(m.squeeze s' h).view.set]{q} f)) : sProp 𝕄) := by
    iintro ⟨%f, %hf, H⟩
    iexists f
    isplitr; · ipureintro; exact (hiff f).mpr hf
    rw [hset]; iexact H
  exact BI.equiv_iff.mp ⟨h₁, h₂⟩

/-- The other way round: a squeezed memref at `Y`. -/
theorem owns_squeezed (c : Thread nD τ) {sp : Space} {s s' : Shape} {e : EltTy} (m : Memref sig c.2.kind sp s e) (h : s.Squeezes s')
    (q : PosShare TreeShare) (Y : s'.Idx → Val e) :
    (owns c (m.squeeze s' h) q Y : sProp 𝕄) = owns c m q (fun i => Y (Shape.reshapeEquiv h.numel_eq.symm i)) := by
  rw [← owns_squeeze c m h q]
  congr 1
  funext j
  rw [Shape.reshapeEquiv_reshapeEquiv, Shape.reshapeEquiv_self]

/-- A memref just written whole is owned at what was written. -/
theorem owns_written (c : Thread nD τ) {sp : Space} {s : Shape} {e : EltTy} (m : Memref sig c.2.kind sp s e)
    (f : Buf Val (m.view.loc c)) (w : s.Idx → Val e) :
    (m.view.loc c ↦[m.view.set]{fullShare} (m.view.write Val f w Finset.univ) : sProp 𝕄) ⊢ owns c m fullShare w := by
  have h := owns_intro (Ix := Ix) (Name := Name) (U := U) (Lvl := Lvl) c m fullShare (m.view.write Val f w Finset.univ)
  rwa [show m.view.read Val (m.view.write Val f w Finset.univ) = w from
    funext fun i => View.read_write_of_mem (v := m.view) f w (Finset.mem_univ i)] at h

section Wp

variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A load through a rectangle whose slice is owned. -/
theorem wp_load_slice {cs : CoreSpace} {m : Memref sig c.2.kind cs s e} {r : Rect s} (hr : ∀ a, r.stride a = 1) {hl : m.view.LoadsAt r}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r hl) k) Q) := by
  unfold owns
  iintro ⟨%f, %hf, H⟩ Hk
  iapply (wp_load_rect 𝒱 c bd Set.univ (m := m) (r := r) (S := (m.access r).set) (Finset.Subset.refl _)) $$ H
  iintro H
  subst hf
  iapply Hk
  iexists f
  isplitr; · ipureintro; rfl
  iexact H

/-- A load through a rectangle of a memref owned as a whole. -/
theorem wp_load_owns {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k fun j => X (r.emb j)) Q)
        -∗ wp frame (wpE defs 𝒱 c bd) Set.univ (.op (.load m r hl) k) Q) := by
  unfold owns
  iintro ⟨%f, %hf, H⟩ Hk
  iapply (wp_load_rect 𝒱 c bd Set.univ (m := m) (r := r) (S := m.view.set) (m.view.set_slice_subset r)) $$ H
  iintro H
  subst hf
  iapply Hk
  iexists f
  isplitr; · ipureintro; rfl
  iexact H

/-- A store of a whole slice. -/
theorem wp_store_slice {cs : CoreSpace} {m : Memref sig c.2.kind cs s e} {r : Rect s} (hr : ∀ a, r.stride a = 1) {w : r.shape.Idx → Val e}
    {hx : (m.access r).Stores Finset.univ} {hm : Finset.univ = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (w := w) (Mk := Finset.univ) (hx := hx) (hm := hm) (S := (m.access r).set)
    (Finset.Subset.refl _)) $$ H
  iintro H
  iapply Hk
  iexists ((m.access r).write Val f w Finset.univ)
  isplitr
  · ipureintro
    funext j
    exact View.read_write_of_mem (v := m.access r) f w (Finset.mem_univ j)
  iexact H

/-- A local copy joining a batch: the destination, owned, is delivered at what the source reads. -/
theorem wp_copy (EC : UEmb Counters 𝕄) [Infinite Name] [EC.LandsIn (upEmb : UEmb _ 𝕄)] {n : ℕ}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)} {Y : s.Idx → Val e}
    {D : Fin n → sProp 𝕄} {j u : ℕ}
    (ι : Ix) (N : ℕ) (hN : dst.view.amount sm = N) (hj : j < n) (hu : u ≤ j * N)
    (hD : iprop(owns c dst fullShare (src.view.read Val fs) ∗ (src.view.loc c ↦[src.view.set]{q} fs)) ⊢ D ⟨j, hj⟩) :
    iprop((src.view.loc c ↦[src.view.set]{q} fs) ∗ owns c dst fullShare Y ∗ Transfers.Batch EC c sm ι N D j u)
      ⊢ iprop((Transfers.Batch EC c sm ι N D (j + 1) u -∗ wp frame (wpE defs 𝒱 c bd) Set.univ (k ⟨⟩) Q)
          -∗ wp frame (wpE defs 𝒱 c bd) Set.univ (.op (.enqueueDma src (.here dst) sm hsrc hdst hsem) k) Q) := by
  unfold owns
  iintro ⟨Hs, ⟨%fd, %hfd, Hd⟩, HB⟩ Hk
  iapply (Transfers.wp_dmaBatch EC 𝒱 c bd (src := src) (via := .same) (dst := dst) (sm := sm) (q := q) (fs := fs) (Sd := dst.view.set) (fd := fd) (D := D)
    (j := j) (u := u) ι N hN (Finset.Subset.refl _) hj hu ((sep_mono_left (owns_written c dst fd _)).trans hD)) $$ [Hs Hd HB]
  · isplitl [Hs]; · iexact Hs
    isplitl [Hd]; · iexact Hd
    iexact HB
  iexact Hk

end Wp

section Send

open Idealize.ShloMosaic.Rounds

variable [Preorder Lvl] {Λ : Labels} {defs : Defs nD τ sig Val Λ} (𝒱 : Variants)
variable {D : Type} [DecidableEq D] (E : Emb (URounds (GSem nD τ sig) D) (MT nD τ sig Ix Val Name U Lvl))
  (Rd : Schedule (GSem nD τ sig) D (MT nD τ sig Ix Val Name U Lvl)) (c : Thread nD τ) (bd : Option 𝒱.V)
variable {α : Type} {Q : α → sProp (MT nD τ sig Ix Val Name U Lvl)} {sp sp' : Space} {s : Shape} {e : EltTy}

/-- A transfer to another core between owned memrefs: the source makes the sender's payload, the destination, at the
    source's contents and with `R` beside it, the receiver's. -/
theorem wp_send_owns [E.LandsIn (upEmb : UEmb _ 𝕄)] [∀ g r d, Storable (upEmb : UEmb _ 𝕄) (Rd.payload g r d)] {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare}
    {X Y : s.Idx → Val e} {R : sProp 𝕄} {d₁ d₂ : D} {κ₁ κ₂ : Name}
    (hd₁ : d₁ ∈ Rd.duties (c, sS) 0) (hd₂ : d₂ ∈ Rd.duties (c', sem) 0)
    (ι : Ix) (N : ℕ) (hN : dst.view.amount sem = N)
    (hk₁ : Rd.amount (c, sS) 0 d₁ = N) (hk₂ : Rd.amount (c', sem) 0 d₂ = N)
    {O₀ : CellTallies nD τ sig Ix} (O : CellTallies nD τ sig Ix) (hO : O₀ = O + tallyAt (c', sem) ι N) {W : Waits sig Ix}
    (hpay₁ : owns c src q X ⊢ Rd.payload (c, sS) 0 d₁)
    (hpay₂ : iprop(owns c' dst fullShare X ∗ R) ⊢ Rd.payload (c', sem) 0 d₂) (hr : τ.routes c c' = true := by routes) :
    iprop(cellInv E Rd κ₁ (c, sS) ∗ cellInv E Rd κ₂ (c', sem)
        ∗ owns c src q X ∗ (owns c' dst fullShare Y ∗ R)
        ∗ owes c O₀ W
        ∗ dutyTok E (c, sS) 0 d₁ ∗ reached E (c, sS) 0
        ∗ dutyTok E (c', sem) 0 d₂ ∗ reached E (c', sem) 0)
      ⊢ iprop(((cred (tallyAt (c, sS) ι N) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  unfold owns
  iintro ⟨#H1, #H2, ⟨%fs, %hfs, Hs⟩, ⟨⟨%fd, %hfd, Hd⟩, HR⟩, HO, Ht1, #Hr1, Ht2, #Hr2⟩ Hk
  subst hfs
  iapply (Rounds.wp_send_pointsTo_with 𝒱 E Rd c bd (src := src) (dst := dst) (sS := sS) (sem := sem) (q := q) (fs := fs) (fd := fd) (F := R)
    (κ₁ := κ₁) (κ₂ := κ₂) hd₁ hd₂ ι ι N hN hk₁ hk₂ O hO (W := W)
    ((owns_intro c src q fs).trans hpay₁)
    ((sep_mono_left (owns_written c' dst fd _)).trans hpay₂) hr) $$ [Hs Hd HR HO Ht1 Ht2]
  · isplitr; · iexact H1
    isplitr; · iexact H2
    isplitl [Hs]; · iexact Hs
    isplitl [Hd HR]
    · isplitl [Hd] <;> iassumption
    isplitl [HO]; · iexact HO
    isplitl [Ht1]; · iexact Ht1
    isplitr; · iexact Hr1
    isplitl [Ht2]; · iexact Ht2
    iexact Hr2
  iexact Hk

end Send

end Cert.Own
-- ==== Proof.Spec.lean ====
module
public import proofs.«01_k».proof.Proof.Prog
public import proofs.«01_k».proof.Proof.Own
public import Idealize.ShloMosaic.Lib.Pipeline.Launch
public import Idealize.ShloMosaic.Lib.Pipeline.Kit
public import Idealize.ShloMosaic.Lib.Tactic

/-! What every buffer of the kernel holds, and how the buffers are cut into the pieces the kernel handles one by one. -/

@[expose] public section

noncomputable section

namespace Cert.KernelIdeal.Attn

open Idealize.ShloMosaic Idealize.ShloMosaic.TcCoe Idealize.SL.Sem Cert.KernelIdeal Cert.KernelIdeal.Gen

variable {F : FTy → Type} [FloatOps F] [Named F]

/-! ## The ring of devices -/

set_option backward.proofsInPublic true in
/-- The neighbour the chunks are passed to. -/
def nxt (c : Dev nD) : Dev nD := ⟨(c.val + 1) % 4, Nat.mod_lt _ (by decide)⟩
set_option backward.proofsInPublic true in
/-- The neighbour the chunks come from. -/
def prv (c : Dev nD) : Dev nD := ⟨(c.val + 3) % 4, Nat.mod_lt _ (by decide)⟩
set_option backward.proofsInPublic true in
/-- The device opposite. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem opp_opp (c : Dev nD) : opp (opp c) = c := by revert c; decide
theorem prv_prv (c : Dev nD) : prv (prv c) = opp c := by revert c; decide
theorem nxt_nxt (c : Dev nD) : nxt (nxt c) = opp c := by revert c; decide
theorem nxt_opp (c : Dev nD) : nxt (opp c) = prv c := by revert c; decide
theorem prv_opp (c : Dev nD) : prv (opp c) = nxt c := by revert c; decide

def ring : Dev nD ≃ Dev nD := ⟨nxt, prv, prv_nxt, nxt_prv⟩
def across : Dev nD ≃ Dev nD := ⟨opp, opp, opp_opp, opp_opp⟩

/-! Which device each signal and each transfer of the kernel is for. -/

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = nxt c := by decide +kernel
theorem dev7_eq : ∀ c : Dev nD, (⟨k0_dev7 c, k0_dev7_lt c⟩ : Dev nD) = prv c := by decide +kernel
theorem dev8_eq : ∀ c : Dev nD, (⟨k0_dev8 c, k0_dev8_lt c⟩ : Dev nD) = opp c := by decide +kernel

/-! ## The steps' places -/

/-- The keys and values of step `j`. -/
def offs (d : Dev nD) : Fin 4 → Offs
  | 0 => offA d 0 | 1 => offA d 1 | 2 => offA d 2 | 3 => offB d
/-- The chunk of step `j`, counted from the device's own number: `my - j`, and `my + 1` in the last step. -/
def chunkOf : Fin 4 → Fin 4
  | 0 => 0 | 1 => 3 | 2 => 2 | 3 => 1

theorem Rows.eq_of_off {r r' : Rows} (h : r.off = r'.off) : r = r' := by
  cases r; cases r'; cases h; rfl

theorem rowA_off : ∀ (d : Dev nD) (j : Fin 3) (a : Fin 2),
    k0_off2 d (BitVec.ofNat 32 j.val) a = k0_off5 d (BitVec.ofNat 32 (chunkOf ⟨j.val, by omega⟩).val) a := by decide +kernel

/-- The rows of a step are those of its chunk. -/
theorem rowA_eq (d : Dev nD) (j : Fin 3) : rowA d j = rowB d (chunkOf ⟨j.val, by omega⟩) :=
  Rows.eq_of_off (funext (rowA_off d j))

theorem offs_val : ∀ (d : Dev nD) (j : Fin 4) (h : Fin 8) (a : Fin 4),
    (offs d j).off h a = (![(d.val + (chunkOf j).val) % 4, 0, 8 * d.val + h.val, 0] : Fin 4 → ℕ) a := by decide +kernel

theorem rowB_val : ∀ (d : Dev nD) (k : Fin 4) (a : Fin 2),
    (rowB d k).off a = (![((d.val + k.val) % 4) * 256, 0] : Fin 2 → ℕ) a := by decide +kernel

/-! ## The cuts -/

theorem kvb_disj (t t' : Fin 2 × Fin 8) (h : t ≠ t') : Disjoint (kvbR t.1 t.2).set (kvbR t'.1 t'.2).set := by
  by_cases h1 : t.1 = t'.1
  · have h2 : t.2 ≠ t'.2 := fun h2 => h (Prod.ext h1 h2)
    refine Rect.disjoint_of_axis _ _ (1 : Fin 4) fun j₁ hj₁ j₂ hj₂ he => h2 (Fin.ext ?_)
    have hj₁ : j₁ < 1 := hj₁
    have hj₂ : j₂ < 1 := hj₂
    have he : t.2.val + 1 * j₁ = t'.2.val + 1 * j₂ := he
    omega
  · refine Rect.disjoint_of_axis _ _ (0 : Fin 4) fun j₁ hj₁ j₂ hj₂ he => h1 (Fin.ext ?_)
    have hj₁ : j₁ < 1 := hj₁
    have hj₂ : j₂ < 1 := hj₂
    have he : t.1.val + 1 * j₁ = t'.1.val + 1 * j₂ := he
    omega

theorem kvb_cov : (Finset.univ : Finset (Fin 2 × Fin 8)).biUnion (fun t => (kvbR t.1 t.2).set) = Finset.univ := by
  refine Finset.eq_univ_iff_forall.mpr fun i => ?_
  have h0 : (i 0).val < 2 := (i 0).isLt
  have h1 : (i 1).val < 8 := (i 1).isLt
  refine Finset.mem_biUnion.mpr ⟨(⟨(i 0).val, h0⟩, ⟨(i 1).val, h1⟩), Finset.mem_univ _, (LoadRect.mem_set _).mpr fun a => ?_⟩
  fin_cases a
  · exact ⟨0, Nat.one_pos, rfl⟩
  · exact ⟨0, Nat.one_pos, rfl⟩
  · exact ⟨(i 2).val, (i 2).isLt, by show (i 2).val = 0 + 1 * (i 2).val; omega⟩
  · exact ⟨(i 3).val, (i 3).isLt, by show (i 3).val = 0 + 1 * (i 3).val; omega⟩

theorem three_disj (k k' : Fin 3) (h : k ≠ k') : Disjoint (threeR k).set (threeR k').set := by
  refine Rect.disjoint_of_axis _ _ (0 : Fin 3) fun j₁ hj₁ j₂ hj₂ he => h (Fin.ext ?_)
  have hj₁ : j₁ < 1 := hj₁
  have hj₂ : j₂ < 1 := hj₂
  have he : k.val + 1 * j₁ = k'.val + 1 * j₂ := he
  omega

theorem three_cov : (Finset.univ : Finset (Fin 3)).biUnion (fun k => (threeR k).set) = Finset.univ := by
  refine Finset.eq_univ_iff_forall.mpr fun i => ?_
  have h0 : (i 0).val < 3 := (i 0).isLt
  refine Finset.mem_biUnion.mpr ⟨⟨(i 0).val, h0⟩, Finset.mem_univ _, (LoadRect.mem_set _).mpr fun a => ?_⟩
  fin_cases a
  · exact ⟨0, Nat.one_pos, rfl⟩
  · exact ⟨(i 1).val, (i 1).isLt, by show (i 1).val = 0 + 1 * (i 1).val; omega⟩
  · exact ⟨(i 2).val, (i 2).isLt, by show (i 2).val = 0 + 1 * (i 2).val; omega⟩

theorem four_disj (k k' : Fin 4) (h : k ≠ k') : Disjoint (fourR k).set (fourR k').set := by
  refine Rect.disjoint_of_axis _ _ (0 : Fin 3) fun j₁ hj₁ j₂ hj₂ he => h (Fin.ext ?_)
  have hj₁ : j₁ < 1 := hj₁
  have hj₂ : j₂ < 1 := hj₂
  have he : k.val + 1 * j₁ = k'.val + 1 * j₂ := he
  omega

theorem four_cov : (Finset.univ : Finset (Fin 4)).biUnion (fun k => (fourR k).set) = Finset.univ := by
  refine Finset.eq_univ_iff_forall.mpr fun i => ?_
  have h0 : (i 0).val < 4 := (i 0).isLt
  refine Finset.mem_biUnion.mpr ⟨⟨(i 0).val, h0⟩, Finset.mem_univ _, (LoadRect.mem_set _).mpr fun a => ?_⟩
  fin_cases a
  · exact ⟨0, Nat.one_pos, rfl⟩
  · exact ⟨(i 1).val, (i 1).isLt, by show (i 1).val = 0 + 1 * (i 1).val; omega⟩
  · exact ⟨(i 2).val, (i 2).isLt, by show (i 2).val = 0 + 1 * (i 2).val; omega⟩

theorem headR_off (h : Fin 8) : (headR h).off = ![0, 128 * h.val] := Gen.k0_off3_eq h

theorem head_disj (h h' : Fin 8) (hn : h ≠ h') : Disjoint (headR h).set (headR h').set := by
  refine Rect.disjoint_of_axis _ _ (1 : Fin 2) fun j₁ hj₁ j₂ hj₂ he => hn (Fin.ext ?_)
  rw [headR_off, headR_off] at he
  have hj₁ : j₁ < 128 := hj₁
  have hj₂ : j₂ < 128 := hj₂
  have he : 128 * h.val + 1 * j₁ = 128 * h'.val + 1 * j₂ := he
  omega

theorem head_cov : (Finset.univ : Finset (Fin 8)).biUnion (fun h => (headR h).set) = Finset.univ := by
  refine Finset.eq_univ_iff_forall.mpr fun i => ?_
  have h0 : (i 0).val < 256 := (i 0).isLt
  have h1 : (i 1).val < 1024 := (i 1).isLt
  refine Finset.mem_biUnion.mpr ⟨⟨(i 1).val / 128, by omega⟩, Finset.mem_univ _, (LoadRect.mem_set _).mpr fun a => ?_⟩
  rw [headR_off]
  fin_cases a
  · exact ⟨(i 0).val, h0, by show (i 0).val = 0 + 1 * (i 0).val; omega⟩
  · exact ⟨(i 1).val % 128, by show (i 1).val % 128 < 128; omega, by show (i 1).val = 128 * ((i 1).val / 128) + 1 * ((i 1).val % 128); omega⟩

theorem row_disj (d : Dev nD) (k k' : Fin 4) (h : k ≠ k') : Disjoint (rowB d k).rect.set (rowB d k').rect.set := by
  refine Rect.disjoint_of_axis _ _ (0 : Fin 2) fun j₁ hj₁ j₂ hj₂ he => h (Fin.ext ?_)
  have hj₁ : j₁ < 256 := hj₁
  have hj₂ : j₂ < 256 := hj₂
  have he : (rowB d k).off 0 + 1 * j₁ = (rowB d k').off 0 + 1 * j₂ := he
  rw [rowB_val, rowB_val] at he
  have he : ((d.val + k.val) % 4) * 256 + 1 * j₁ = ((d.val + k'.val) % 4) * 256 + 1 * j₂ := he
  omega

theorem row_cov (d : Dev nD) : (Finset.univ : Finset (Fin 4)).biUnion (fun k => (rowB d k).rect.set) = Finset.univ := by
  refine Finset.eq_univ_iff_forall.mpr fun i => ?_
  have h0 : (i 0).val < 1024 := (i 0).isLt
  refine Finset.mem_biUnion.mpr ⟨⟨((i 0).val / 256 + 4 - d.val) % 4, Nat.mod_lt _ (by decide)⟩, Finset.mem_univ _, (LoadRect.mem_set _).mpr fun a => ?_⟩
  have hd : d.val < 4 := d.isLt
  show ∃ j < S256x1024.size a, _ = (rowB d _).off a + 1 * j
  rw [rowB_val]
  fin_cases a
  · refine ⟨(i 0).val % 256, by show _ < 256; omega, ?_⟩
    show (i 0).val = ((d.val + ((i 0).val / 256 + 4 - d.val) % 4) % 4) * 256 + 1 * ((i 0).val % 256)
    omega
  · exact ⟨(i 1).val, (i 1).isLt, by show (i 1).val = 0 + 1 * (i 1).val; omega⟩

/-- The rectangle of the keys and values that head `h` of step `j` reads. -/
abbrev srcR (o : Offs) (h : Fin 8) : Rect S4x1024x32x128 := Rect.unit (s := S4x1024x32x128) (o.off h) S1x1024x1x128.size (o.inb h)

theorem src_disj (d : Dev nD) (t t' : Fin 4 × Fin 8) (h : t ≠ t') : Disjoint (srcR (offs d t.1) t.2).set (srcR (offs d t'.1) t'.2).set := by
  by_cases h1 : t.1 = t'.1
  · have h2 : t.2 ≠ t'.2 := fun h2 => h (Prod.ext h1 h2)
    refine Rect.disjoint_of_axis _ _ (2 : Fin 4) fun j₁ hj₁ j₂ hj₂ he => h2 (Fin.ext ?_)
    have hj₁ : j₁ < 1 := hj₁
    have hj₂ : j₂ < 1 := hj₂
    have he : (offs d t.1).off t.2 2 + 1 * j₁ = (offs d t'.1).off t'.2 2 + 1 * j₂ := he
    rw [offs_val, offs_val] at he
    have he : 8 * d.val + t.2.val + 1 * j₁ = 8 * d.val + t'.2.val + 1 * j₂ := he
    omega
  · refine Rect.disjoint_of_axis _ _ (0 : Fin 4) fun j₁ hj₁ j₂ hj₂ he => h1 ?_
    have hj₁ : j₁ < 1 := hj₁
    have hj₂ : j₂ < 1 := hj₂
    have he : (offs d t.1).off t.2 0 + 1 * j₁ = (offs d t'.1).off t'.2 0 + 1 * j₂ := he
    rw [offs_val, offs_val] at he
    have he : (d.val + (chunkOf t.1).val) % 4 + 1 * j₁ = (d.val + (chunkOf t'.1).val) % 4 + 1 * j₂ := he
    have hc : (chunkOf t.1).val = (chunkOf t'.1).val := by omega
    exact (by decide : ∀ a b : Fin 4, (chunkOf a).val = (chunkOf b).val → a = b) _ _ hc

/-! ## The contents -/

variable (m : (ℓ : Loc nD τ sig) → Buf (Elt F) ℓ)

/-- What the kernel is given on device `c`. -/
def xV (c : Dev nD) : (cc0_stg0_0 : Ref sig .tc).ty.Contents (Elt F) :=
  (win0_0.blk (0 : Fin 1)).view.read (Elt F) (m ((c : Thread nD τ).loc main_arg0))
def wqV (c : Dev nD) : (cc0_stg1_0 : Ref sig .tc).ty.Contents (Elt F) :=
  (win0_1.blk (0 : Fin 1)).view.read (Elt F) (m ((c : Thread nD τ).loc main_arg1))
def woV (c : Dev nD) : (cc0_stg2_0 : Ref sig .tc).ty.Contents (Elt F) :=
  (win0_2.blk (0 : Fin 1)).view.read (Elt F) (m ((c : Thread nD τ).loc main_arg4))
def kV (c : Dev nD) : Buf (Elt F) ((c : Thread nD τ).loc main_arg2) := m ((c : Thread nD τ).loc main_arg2)
def vV (c : Dev nD) : Buf (Elt F) ((c : Thread nD τ).loc main_arg3) := m ((c : Thread nD τ).loc main_arg3)

/-- The queries' weights, scaled and rounded. -/
def wqS (c : Dev nD) : FVec F S1024x1024 .bf16 := k0_pay2 (k0_pay1 (wqV m c))
/-- The output weights, rounded. -/
def woS (c : Dev nD) : FVec F S1024x1024 .bf16 := k0_pay3 (woV m c)

/-- The rows of step `j`. -/
abbrev rows (c : Dev nD) (j : Fin 4) : Rows := rowB c (chunkOf j)

/-- The queries of step `j`. -/
def qAt (c : Dev nD) (j : Fin 4) : Vec F S256x1024 .bf16 := k0_pay20 (wqS m c) (fun i => xV m c ((rows c j).rect.emb i))
/-- The keys and the values of head `h` in step `j`, as the copy leaves them. -/
def kTile (c : Dev nD) (j : Fin 4) (h : Fin 8) : Vec F S1x1x1024x128 .f32 := fun i =>
  (srcS kM (offs c j) h).view.read (Elt F) (kV m c) (Shape.reshapeEquiv squeezes_S1x1x1024x128_S1024x128.numel_eq.symm i)
def vTile (c : Dev nD) (j : Fin 4) (h : Fin 8) : Vec F S1x1x1024x128 .f32 := fun i =>
  (srcS vM (offs c j) h).view.read (Elt F) (vV m c) (Shape.reshapeEquiv squeezes_S1x1x1024x128_S1024x128.numel_eq.symm i)
/-- The output of head `h` in step `j`. -/
def headAt (c : Dev nD) (j : Fin 4) (h : Fin 8) : Vec F S256x128 .bf16 :=
  k0_pay5 (fun i => qAt m c j ((headR h).emb i)) (kTile m c j h) (vTile m c j h)
/-- The outputs of all heads, side by side. -/
def attnAt (c : Dev nD) (j : Fin 4) : Vec F S256x1024 .bf16 := Rect.glue headR head_cov (fun h => headAt m c j h)

/-- The chunk step `j` stores: the step's own part, and after the first step what came from the neighbour. -/
def chunkN : ℕ → Dev nD → FVec F S256x1024 .f32
  | 0, c => k0_pay18 (woS m c) (attnAt m c 0)
  | j + 1, c => k0_pay34 (woS m c) (attnAt m c (Fin.ofNat 4 (j + 1))) (k0_pay35 (chunkN j (prv c)))
/-- That chunk, as it is sent on. -/
def stageN (j : ℕ) (c : Dev nD) : Vec F S1x256x1024 .bf16 := k0_pay35 (chunkN m j c)

/-- The chunk `k` places after the device's own number, in the result. -/
def outChunk (c : Dev nD) : Fin 4 → FVec F S256x1024 .f32
  | 0 => k0_pay68 (stageN m 3 (prv c))
  | 1 => chunkN m 3 c
  | 2 => k0_pay68 (stageN m 3 (nxt c))
  | 3 => k0_pay68 (stageN m 3 (opp c))

/-- The result on device `c`. -/
def outAt (c : Dev nD) : (cc0_stg3_0 : Ref sig .tc).ty.Contents (Elt F) :=
  Rect.glue (fun k => (rowB c k).rect) (row_cov c) (outChunk m c)

theorem attnAt_head (c : Dev nD) (j : Fin 4) (h : Fin 8) : (fun i => attnAt m c j ((headR h).emb i)) = headAt m c j h :=
  funext fun i => Rect.glue_emb headR head_cov head_disj _ h i

theorem outAt_row (c : Dev nD) (k : Fin 4) : (fun i => outAt m c ((rowB c k).rect.emb i)) = outChunk m c k :=
  funext fun i => Rect.glue_emb (fun k => (rowB c k).rect) (row_cov c) (row_disj c) _ k i

end Cert.KernelIdeal.Attn
-- ==== Proof.Proto.lean ====
module
public import proofs.«01_k».proof.Proof.Spec
public import Idealize.ShloMosaic.Lib.Tactic

/-! The kernel's protocol between the devices: which semaphore counts what, what each count hands over, what each device
    owes at the start, and in which order the waits stand. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## The resources -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER embR; infer_instance
abbrev EC : UEmb Counters (MT nD τ sig Unit (Elt F) ℕ UU ℕ) := countersEmb (U := UU)

/-! ## The cells -/

/-- The kernel's cells: the barrier, and by kind — chunks sent on, chunks arrived, finished chunks sent, finished chunks
    arrived — the three of each. -/
abbrev Ck := Option (Fin 4 × Fin 3)

def arr : Fin 4 → DmaSems sig S3
  | 0 => cc0_scratch8 | 1 => cc0_scratch9 | 2 => cc0_scratch10 | 3 => cc0_scratch11
def csem : Ck → SemLoc sig
  | none => .reg barSem
  | some (a, j) => .dma (sem3 (arr a) j)
theorem csem_inj : ∀ k k' : Ck, csem k = csem k' → k = k' := by decide +kernel
abbrev kcell (ck : Dev nD × Ck) : GSem nD τ sig := ((ck.1 : Thread nD τ), csem ck.2)
theorem kcell_inj : Function.Injective (kcell : Dev nD × Ck → GSem nD τ sig) := by
  rintro ⟨c, k⟩ ⟨c', k'⟩ h
  have h1 : c = c' := congrArg (fun g : GSem nD τ sig => g.1.1) h
  have h2 : k = k' := csem_inj k k' (congrArg Prod.snd h)
  rw [h1, h2]

open Classical in
/-- Which cell a semaphore is. -/
def kOf (s : SemLoc sig) : Option Ck := if h : ∃ k, csem k = s then some h.choose else none
theorem kOf_csem (k : Ck) : kOf (csem k) = some k := by
  have h : ∃ k', csem k' = csem k := ⟨k, rfl⟩
  unfold kOf
  rw [dif_pos h]
  exact congrArg some (csem_inj _ _ h.choose_spec)
theorem kOf_ne {s : SemLoc sig} (h : ∀ k, csem k ≠ s) : kOf s = none := dif_neg fun ⟨k, hk⟩ => h k hk

/-- What one transfer of a chunk counts. -/
def NT : ℕ := (fourS stM 0).view.dmaCredit
theorem NT_pos : 0 < NT := View.dmaCredit_pos _ (by decide)

def kAmt : Ck → ℕ | none => 1 | some _ => NT
theorem kAmt_pos : ∀ k, 0 < kAmt k | none => Nat.one_pos | some _ => NT_pos
def kDuties : Ck → Finset Bool | none => Finset.univ | some _ => {false}

/-! ## The pieces of the buffers -/

abbrev commP (k : Fin 3) : Memref sig .tc .vmem (threeR k).shape .bf16 := commM.slice (threeR k) (fun _ => rfl)
abbrev bcP (k : Fin 3) : Memref sig .tc .vmem (threeR k).shape .bf16 := bcM.slice (threeR k) (fun _ => rfl)
abbrev stP (j : Fin 4) : Memref sig .tc .vmem (fourR j).shape .bf16 := stM.slice (fourR j) (fun _ => rfl)

/-- A piece of a buffer of device `c`, at any contents. -/
abbrev anyAt (c : Dev nD) {sp : Space} {s : Shape} {e : EltTy} (b : Memref sig .tc sp s e) : sProp 𝕄 :=
  iprop(∃ X : s.Idx → Elt F e, owns (Ix := Unit) (Name := ℕ) (U := UU) (Lvl := ℕ) (c : Thread nD τ) b fullShare X)
/-- A piece of a buffer of device `c`, at known contents. -/
abbrev isAt (c : Dev nD) {sp : Space} {s : Shape} {e : EltTy} (b : Memref sig .tc sp s e) (X : s.Idx → Elt F e) : sProp 𝕄 :=
  owns (Ix := Unit) (Name := ℕ) (U := UU) (Lvl := ℕ) (c : Thread nD τ) b fullShare X

/-- The shares the finished chunk is lent at, one for each of the three transfers of it. -/
def third : Fin 3 → PosShare TreeShare
  | 0 => fullShare.left | 1 => fullShare.right.left | 2 => fullShare.right.right

/-- Where the finished chunk in plane `k` comes from. -/
def bcSrc (k : Fin 3) (c : Dev nD) : Dev nD := match k with | 0 => prv c | 1 => nxt c | 2 => opp c

/-! ## The schedule -/

variable (m : (ℓ : Loc nD τ sig) → Buf (Elt F) ℓ)

/-- What each count of a cell of device `c` hands over: at the barrier, the planes of the neighbours' buffers the device
    will fill (the plane of the device opposite comes by way of the neighbour); after a transfer, its source again, or its
    destination at what has arrived. -/
def payK (c : Dev nD) : Ck → Bool → sProp 𝕄
  | none, false => iprop(anyAt (prv c) (bcP 1) ∗ anyAt (prv c) (bcP 2))
  | none, true => iprop(anyAt (nxt c) (commP 0) ∗ anyAt (nxt c) (commP 1) ∗ anyAt (nxt c) (commP 2) ∗ anyAt (nxt c) (bcP 0))
  | some (0, j), _ => isAt c (stP ⟨j.val, by omega⟩) (stageN m j.val c)
  | some (1, 0), _ => iprop(isAt c (commP 0) (stageN m 0 (prv c)) ∗ anyAt (opp c) (bcP 2))
  | some (1, j), _ => iprop(isAt c (commP j) (stageN m j.val (prv c)) ∗ emp)
  | some (2, k), _ => owns (Ix := Unit) (Name := ℕ) (U := UU) (Lvl := ℕ) (c : Thread nD τ) (stP 3) (third k) (stageN m 3 c)
  | some (3, k), _ => iprop(isAt c (bcP k) (stageN m 3 (bcSrc k c)) ∗ emp)

instance payK_storable (c : Dev nD) (k : Ck) (d : Bool) : BI.Storable (upEmb : UEmb _ 𝕄) (payK m c k d) := by
  match k, d with
  | none, false => unfold payK; infer_instance
  | none, true => unfold payK; infer_instance
  | some (0, j), _ => unfold payK; infer_instance
  | some (1, 0), _ => show BI.Storable _ iprop(isAt c (commP 0) (stageN m 0 (prv c)) ∗ anyAt (opp c) (bcP 2)); infer_instance
  | some (1, 1), _ => show BI.Storable _ iprop(isAt c (commP 1) (stageN m 1 (prv c)) ∗ emp); infer_instance
  | some (1, 2), _ => show BI.Storable _ iprop(isAt c (commP 2) (stageN m 2 (prv c)) ∗ emp); infer_instance
  | some (2, k), _ => unfold payK; infer_instance
  | some (3, k), _ => unfold payK; infer_instance

def sched : Rounds.Schedule (GSem nD τ sig) Bool 𝕄 where
  duties g r := if r = 0 ∧ g.1.2 = .tc then (kOf g.2).elim ∅ kDuties else ∅
  unitless _ := False
  amount g _ _ := (kOf g.2).elim 1 kAmt
  payload g _ d := (kOf g.2).elim iprop(emp) fun k => payK m g.1.1 k d
  amount_pos g _ _ _ := by
    cases h : kOf g.2 with
    | none => exact Nat.one_pos
    | some k => exact kAmt_pos k

instance sched_payload_storable (g : GSem nD τ sig) (r : ℕ) (d : Bool) :
    BI.Storable (upEmb : UEmb _ 𝕄) ((sched (F := F) m).payload g r d) := by
  show BI.Storable upEmb ((kOf g.2).elim iprop(emp) fun k => payK m g.1.1 k d)
  cases kOf g.2 with
  | none => show BI.Storable upEmb iprop(emp); infer_instance
  | some k => exact payK_storable m _ k d

section Sched
variable (c : Dev nD)

theorem duties_k (k : Ck) : (sched (F := F) m).duties (kcell (c, k)) 0 = kDuties k := by
  dsimp only [sched]; rw [if_pos ⟨rfl, rfl⟩, kOf_csem]; rfl
theorem duties_later (g : GSem nD τ sig) : ∀ r, 1 ≤ r → (sched (F := F) m).duties g r = ∅ :=
  fun r hr => by dsimp only [sched]; rw [if_neg fun h => by omega]
theorem amount_k (k : Ck) (d : Bool) : (sched (F := F) m).amount (kcell (c, k)) 0 d = kAmt k := by
  dsimp only [sched]; rw [kOf_csem]; rfl
theorem payload_k (k : Ck) (d : Bool) : (sched (F := F) m).payload (kcell (c, k)) 0 d = payK m c k d := by
  dsimp only [sched]; rw [kOf_csem]; rfl
theorem expect_bar : (sched (F := F) m).expect (kcell (c, none)) 0 = 2 := by
  unfold Schedule.expect Schedule.amountOf
  rw [duties_k]
  show ∑ d : Bool, (sched (F := F) m).amount (kcell (c, none)) 0 d = 2
  rw [Finset.sum_congr rfl fun d _ => amount_k m c none d, Finset.sum_const, Finset.card_univ, Fintype.card_bool, smul_eq_mul]; rfl
theorem expect_some (x : Fin 4 × Fin 3) : (sched (F := F) m).expect (kcell (c, some x)) 0 = NT := by
  unfold Schedule.expect Schedule.amountOf
  rw [duties_k]
  show ∑ d ∈ {false}, (sched (F := F) m).amount (kcell (c, some x)) 0 d = NT
  rw [Finset.sum_singleton, amount_k]; rfl
theorem rest_bar : bigSep ((sched (F := F) m).duties (kcell (c, none)) 0 \ ∅) (fun d => (sched (F := F) m).payload (kcell (c, none)) 0 d)
    = iprop(payK m c none false ∗ payK m c none true) := by
  rw [Finset.sdiff_empty, duties_k]
  show bigSep Finset.univ _ = _
  rw [bigSep_univ_eq_bigSepL [false, true] (by decide) (by decide), bigSepL_cons_cons, bigSepL_singleton, payload_k, payload_k]
  rfl
theorem rest_some (x : Fin 4 × Fin 3) :
    bigSep ((sched (F := F) m).duties (kcell (c, some x)) 0 \ ∅) (fun d => (sched (F := F) m).payload (kcell (c, some x)) 0 d) = payK m c (some x) false := by
  rw [Finset.sdiff_empty, duties_k]
  show bigSep {false} _ = _
  rw [bigSep_singleton, payload_k]

end Sched

/-! ## What each device owes, and the levels -/

/-- What a device still owes, latest first. -/
def owe : List (Dev nD × Ck) → CellTallies nD τ sig Unit
  | [] => 0
  | x :: l => owe l + tallyAt (kcell x) () (kAmt x.2)

/-- What device `c` owes at the start, in the order it pays: both barriers, the chunks sent on, the finished chunk sent to each. -/
def due (c : Dev nD) : List (Dev nD × Ck) :=
  [(prv c, none), (nxt c, none), (nxt c, some (1, 0)), (nxt c, some (1, 1)), (nxt c, some (1, 2)),
    (nxt c, some (3, 0)), (prv c, some (3, 1)), (opp c, some (3, 2))]

def O₀ (c : Dev nD) : CellTallies nD τ sig Unit := owe (due c)

def lvK : Ck → ℕ
  | none => 1
  | some (1, j) => 2 + j.val
  | some (3, _) => 5
  | _ => 0

def L (g : GSem nD τ sig) : Finset Unit := if g.1.2 = .tc then {()} else ∅
def lv (g : GSem nD τ sig) (_ : Unit) : ℕ := (kOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Ck) : lv (kcell (c, k)) () = lvK k := by unfold lv; rw [kOf_csem]; rfl

theorem owe_pos {l : List (Dev nD × Ck)} {g : GSem nD τ sig} {u : Unit} (h : 0 < owe l g u) : ∃ x ∈ l, g = kcell x := by
  induction l with
  | nil => exact absurd h (Nat.lt_irrefl 0)
  | cons x l ih =>
    unfold owe at h
    rw [Pi.add_apply, Finsupp.add_apply] at h
    by_cases hl : 0 < owe l g u
    · obtain ⟨y, hy, he⟩ := ih hl
      exact ⟨y, List.mem_cons_of_mem _ hy, he⟩
    · have h' : 0 < tallyAt (kcell x) () (kAmt x.2) g u := by omega
      exact ⟨x, List.mem_cons_self, (Pipeline.tallyAt_pos h').1⟩

/-- A wait below everything still owed is allowed. -/
theorem mayWait_owe (c : Dev nD) (sm : SemLoc sig) (l : List (Dev nD × Ck)) (n : ℕ) (hs : lv ((c : Thread nD τ), sm) () ≤ n)
    (hl : ∀ x ∈ l, n < lvK x.2) : (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by
      obtain ⟨x, hx, rfl⟩ := owe_pos hg
      exact Finset.mem_singleton_self _)
    (fun p hp => by rw [Finset.mem_singleton.mp hp]; exact hs)
    (fun g u hg => by
      obtain ⟨x, hx, rfl⟩ := owe_pos hg
      rw [show lv (kcell x) u = lvK x.2 from lv_k x.1 x.2]
      exact hl x hx)

/-- How often a cell is among what is owed. -/
theorem owe_at (l : List (Dev nD × Ck)) (x : Dev nD × Ck) : owe l (kcell x) () = l.count x * kAmt x.2 := by
  induction l with
  | nil => rw [List.count_nil, Nat.zero_mul]; rfl
  | cons y l ih =>
    unfold owe
    rw [Pi.add_apply, Finsupp.add_apply, ih, tallyAt_apply, List.count_cons, Nat.add_mul]
    congr 1
    by_cases h : y = x
    · subst h; rw [if_pos ⟨rfl, rfl⟩, if_pos (beq_self_eq_true _), Nat.one_mul]
    · rw [if_neg fun h' => h (kcell_inj h'.1).symm, if_neg (by simpa using h), Nat.zero_mul]

/-- How many counts of each cell of a device the others owe it. -/
def tot : Ck → ℕ
  | none => 2
  | some (1, _) => 1
  | some (3, _) => 1
  | _ => 0

theorem tot_eq : ∀ (c : Dev nD) (k : Ck), ∑ d : Dev nD, (due d).count (c, k) = tot k := by decide +kernel

theorem launch_k (c : Dev nD) (k : Ck) :
    tallyOn (kcell (c, k)) (launchCredit (Pipeline.owing O₀) 0 (kcell (c, k))) = (tallyAt (kcell (c, k)) () (tot k * kAmt k) : CellTallies nD τ sig Unit) := by
  unfold tallyAt; refine congrArg _ (Finsupp.ext fun u => ?_); cases u
  rw [Pipeline.launchCredit_owing, Finsupp.single_eq_same, Finset.sum_congr rfl fun d _ => show O₀ d (kcell (c, k)) () = _ from owe_at (due d) (c, k), ← Finset.sum_mul, tot_eq]

/-- The credit a device starts with. -/
def creds (c : Dev nD) : sProp 𝕄 := bigSep Finset.univ fun k : Ck => cred (tallyAt (kcell (c, k)) () (tot k * kAmt k))

theorem creds_intro (c : Dev nD) : (Pipeline.launchCred O₀ c : sProp 𝕄) ⊢ creds c := by
  unfold Pipeline.launchCred creds
  rw [bigSep_congr (s := (Finset.univ : Finset Ck)) (Ψ := fun k => cred (tallyOn (kcell (c, k)) (launchCredit (Pipeline.owing O₀) 0 (kcell (c, k))))) (fun k _ => by rw [launch_k]),
    show (bigSep Finset.univ fun k : Ck => (cred (tallyOn (kcell (c, k)) (launchCredit (Pipeline.owing O₀) 0 (kcell (c, k)))) : sProp 𝕄))
      = bigSep (Finset.univ.map ⟨csem, fun k k' => csem_inj k k'⟩) (fun sm => (cred (tallyOn ((c : Thread nD τ), sm) (launchCredit (Pipeline.owing O₀) 0 ((c : Thread nD τ), sm))) : sProp 𝕄))
      from (bigSep_map (s := (Finset.univ : Finset Ck)) ⟨csem, fun k k' => csem_inj k k'⟩
        (Φ := fun sm => (cred (tallyOn ((c : Thread nD τ), sm) (launchCredit (Pipeline.owing O₀) 0 ((c : Thread nD τ), sm))) : sProp 𝕄))).symm]
  exact bigSep_subset (Finset.subset_univ _)

/-! ## Tokens and records -/

/-- Which device pays a duty: for each duty of a cell, from the payer to the cell's device. -/
def peer : Ck × Bool → (Dev nD ≃ Dev nD)
  | (none, false) => ring
  | (none, true) => ring.symm
  | (some (1, _), _) => ring
  | (some (3, 0), _) => ring
  | (some (3, 1), _) => ring.symm
  | (some (3, 2), _) => across
  | _ => Equiv.refl _

/-- The duty tokens device `c` pays with. -/
def payToks (c : Dev nD) : sProp 𝕄 := bigSep Finset.univ fun x : Ck × Bool => dutyTok ER (kcell (peer x c, x.1)) 0 x.2

/-- Every cell's invariant, and that every cell has reached its first round. -/
def records (K : Dev nD × Ck → ℕ) : sProp 𝕄 :=
  iprop((bigSep Finset.univ fun ck : Dev nD × Ck => cellInv ER (sched m) (K ck) (kcell ck))
    ∗ bigSep Finset.univ fun ck : Dev nD × Ck => reached ER (kcell ck) 0)

instance records_persistent (K : Dev nD × Ck → ℕ) : BI.Persistent (records m K) := by unfold records; infer_instance

theorem inv_at (K : Dev nD × Ck → ℕ) (ck : Dev nD × Ck) : records m K ⊢ cellInv ER (sched m) (K ck) (kcell ck) := by
  unfold records
  iintro ⟨H, -⟩
  iapply (show (bigSep Finset.univ fun ck : Dev nD × Ck => (cellInv ER (sched m) (K ck) (kcell ck) : sProp 𝕄)) ⊢ cellInv ER (sched m) (K ck) (kcell ck) from bigSep_elim (Finset.mem_univ ck))
  iexact H
theorem reached_at (K : Dev nD × Ck → ℕ) (ck : Dev nD × Ck) : records m K ⊢ reached ER (kcell ck) 0 := by
  unfold records
  iintro ⟨-, H⟩
  iapply (show (bigSep Finset.univ fun ck : Dev nD × Ck => (reached ER (kcell ck) 0 : sProp 𝕄)) ⊢ reached ER (kcell ck) 0 from bigSep_elim (Finset.mem_univ ck))
  iexact H

end Cert.KernelIdeal.Attn
-- ==== Proof.Steps.lean ====
module
public import proofs.«01_k».proof.Proof.Proto
public import Idealize.ShloMosaic.Lib.Tactic

/-! One rule for each of the named steps of the body. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

abbrev 𝒱₀ : Variants := Variants.none

/-- What device `c` needs to run the program `p` to the end. -/
abbrev runs (c : Dev nD) (p : P F PUnit) (Q : PUnit → sProp 𝕄) : sProp 𝕄 :=
  wp frame (wpE (defs₀ (F := F)) 𝒱₀ (c : Thread nD τ) none) Set.univ p Q

/-- What device `c` still owes. -/
def Owes (c : Dev nD) (l : List (Dev nD × Ck)) : sProp 𝕄 := iprop(∃ W, owes (c : Thread nD τ) (owe l) W)

variable (m : (ℓ : Loc nD τ sig) → Buf (Elt F) ℓ) (c : Dev nD) {Q : PUnit → sProp (MT nD τ sig Unit (Elt F) ℕ UU ℕ)}

/-! ## Eight heads -/

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A step run for each head: each uses what it has of its own and passes on what they share. -/
theorem each_wp {f : Fin 8 → P F PUnit → P F PUnit} {A B : Fin 8 → sProp 𝕄} {R : ℕ → sProp 𝕄}
    (hf : ∀ (h : Fin 8) (K : P F PUnit), iprop(A h ∗ R h.val) ⊢ iprop((iprop(B h ∗ R (h.val + 1)) -∗ runs c K Q) -∗ runs c (f h K) Q)) (K : P F PUnit) :
    iprop(bigSep Finset.univ A ∗ R 0) ⊢ iprop((iprop(bigSep Finset.univ B ∗ R 8) -∗ runs c K Q) -∗ runs c (each f K) Q) := by
  have st (h : Fin 8) (n n' : ℕ) (hn : h.val = n) (hn' : h.val + 1 = n') (K : P F PUnit) :
      iprop(A h ∗ R n) ⊢ iprop((iprop(B h ∗ R n') -∗ runs c K Q) -∗ runs c (f h K) Q) := by
    subst hn; subst hn'; exact hf h K
  rw [bigSep_fin8, bigSep_fin8]
  unfold each
  iintro ⟨⟨H0, H1, H2, H3, H4, H5, H6, H7⟩, HR⟩ Hk
  iapply (st 0 0 1 rfl rfl _) $$ [H0 HR]
  · isplitl [H0] <;> iassumption
  iintro ⟨H0, HR⟩
  iapply (st 1 1 2 rfl rfl _) $$ [H1 HR]
  · isplitl [H1] <;> iassumption
  iintro ⟨H1, HR⟩
  iapply (st 2 2 3 rfl rfl _) $$ [H2 HR]
  · isplitl [H2] <;> iassumption
  iintro ⟨H2, HR⟩
  iapply (st 3 3 4 rfl rfl _) $$ [H3 HR]
  · isplitl [H3] <;> iassumption
  iintro ⟨H3, HR⟩
  iapply (st 4 4 5 rfl rfl _) $$ [H4 HR]
  · isplitl [H4] <;> iassumption
  iintro ⟨H4, HR⟩
  iapply (st 5 5 6 rfl rfl _) $$ [H5 HR]
  · isplitl [H5] <;> iassumption
  iintro ⟨H5, HR⟩
  iapply (st 6 6 7 rfl rfl _) $$ [H6 HR]
  · isplitl [H6] <;> iassumption
  iintro ⟨H6, HR⟩
  iapply (st 7 7 8 rfl rfl _) $$ [H7 HR]
  · isplitl [H7] <;> iassumption
  iintro ⟨H7, HR⟩
  iapply Hk
  isplitr [HR]
  · isplitl [H0]; · iexact H0
    isplitl [H1]; · iexact H1
    isplitl [H2]; · iexact H2
    isplitl [H3]; · iexact H3
    isplitl [H4]; · iexact H4
    isplitl [H5]; · iexact H5
    isplitl [H6] <;> iassumption
  iexact HR

/-! ## The copies of the keys and values -/

/-- The slice of a buffer of heads, as the copies leave it and the loads read it. -/
abbrev kvP (b : Memref sig .tc .vmem S2x8x1024x128 .f32) (s : Fin 2) (h : Fin 8) : Memref sig .tc .vmem (kvbR s h).shape .f32 :=
  b.slice (kvbR s h) (fun _ => rfl)

/-- The keys, and the values, that head `h` of step `j` copies. -/
def srcK (j : Fin 4) (h : Fin 8) : sProp 𝕄 := (srcS kM (offs c j) h).view.loc (c : Thread nD τ) ↦[(srcS kM (offs c j) h).view.set]{fullShare} kV m c
def srcV (j : Fin 4) (h : Fin 8) : sProp 𝕄 := (srcS vM (offs c j) h).view.loc (c : Thread nD τ) ↦[(srcS vM (offs c j) h).view.set]{fullShare} vV m c

/-- What the copy of a head hands back. -/
def delK (s : Fin 2) (j : Fin 4) (h : Fin 8) : sProp 𝕄 :=
  iprop(isAt c (kvbS kbM s h) ((srcS kM (offs c j) h).view.read (Elt F) (kV m c)) ∗ srcK m c j h)
def delV (s : Fin 2) (j : Fin 4) (h : Fin 8) : sProp 𝕄 :=
  iprop(isAt c (kvbS vbM s h) ((srcS vM (offs c j) h).view.read (Elt F) (vV m c)) ∗ srcV m c j h)

instance delK_storable (s : Fin 2) (j : Fin 4) (h : Fin 8) : BI.Storable (upEmb : UEmb _ 𝕄) (delK m c s j h) := by unfold delK srcK; infer_instance
instance delV_storable (s : Fin 2) (j : Fin 4) (h : Fin 8) : BI.Storable (upEmb : UEmb _ 𝕄) (delV m c s j h) := by unfold delV srcV; infer_instance

/-- What one copy of a head counts. -/
def NB : ℕ := (kvbS kbM 0 0).view.dmaCredit
theorem NB_pos : 0 < NB := View.dmaCredit_pos _ (by decide)

/-- The copies of step `j` into slot `s`: `i` heads started, the counts of `w` taken. -/
def copies (s : Fin 2) (j : Fin 4) (i w : ℕ) : sProp 𝕄 :=
  iprop(Transfers.Batch EC (c : Thread nD τ) (.dma (slotSem s 0)) () NB (delK m c s j) i (w * NB)
    ∗ Transfers.Batch EC (c : Thread nD τ) (.dma (slotSem s 1)) () NB (delV m c s j) i (w * NB))

/-- The two counters of a slot, at zero. -/
def slotSems (s : Fin 2) : sProp 𝕄 := iprop(semVal ((c : Thread nD τ), .dma (slotSem s 0)) 0 ∗ semVal ((c : Thread nD τ), .dma (slotSem s 1)) 0)
/-- A slot, free. -/
def slotFree (s : Fin 2) : sProp 𝕄 := bigSep Finset.univ fun h : Fin 8 => iprop(anyAt (F := F) c (kvP kbM s h) ∗ anyAt (F := F) c (kvP vbM s h))
/-- A slot filled with step `j`'s heads. -/
def slotFull (s : Fin 2) (j : Fin 4) : sProp 𝕄 :=
  bigSep Finset.univ fun h : Fin 8 => iprop(isAt c (kvP kbM s h) (kTile m c j h) ∗ isAt c (kvP vbM s h) (vTile m c j h))
/-- Step `j`'s keys and values. -/
def src (j : Fin 4) : sProp 𝕄 := bigSep Finset.univ fun h : Fin 8 => iprop(srcK m c j h ∗ srcV m c j h)

theorem any_squeeze {sp : Space} {s s' : Shape} {e : EltTy} (b : Memref sig .tc sp s e) (h : s.Squeezes s') :
    anyAt (F := F) c b ⊢ anyAt (F := F) c (b.squeeze s' h) := by
  iintro ⟨%X, H⟩
  iexists (fun j => X (Shape.reshapeEquiv h.numel_eq j))
  iapply (Entails.of_eq (owns_squeeze (c : Thread nD τ) b h fullShare X).symm)
  iexact H

theorem issue1_wp (s : Fin 2) (j : Fin 4) (h : Fin 8) (K : P F PUnit) :
    iprop(iprop(iprop(anyAt c (kvP kbM s h) ∗ anyAt c (kvP vbM s h)) ∗ iprop(srcK m c j h ∗ srcV m c j h)) ∗ copies m c s j h.val 0)
      ⊢ iprop((iprop(emp ∗ copies m c s j (h.val + 1) 0) -∗ runs c K Q) -∗ runs c (issue1 s (offs c j) h K) Q) := by
  unfold copies issue1
  rw [Nat.zero_mul]
  iintro ⟨⟨⟨Hk, Hv⟩, Hsk, Hsv⟩, HBk, HBv⟩ Hgo
  ihave Hk := (any_squeeze c (kvP kbM s h) squeezes_S1x1x1024x128_S1024x128) $$ Hk
  ihave Hv := (any_squeeze c (kvP vbM s h) squeezes_S1x1x1024x128_S1024x128) $$ Hv
  icases Hk with ⟨%X, Hk⟩
  icases Hv with ⟨%Y, Hv⟩
  unfold srcK srcV
  iapply (wp_copy 𝒱₀ (c : Thread nD τ) none EC (Y := X) (D := delK m c s j) () NB rfl h.isLt (Nat.zero_le _) (by unfold delK srcK; exact BI.Entails.refl _)) $$ [Hsk Hk HBk]
  · isplitl [Hsk]; · iexact Hsk
    isplitl [Hk] <;> iassumption
  iintro HBk
  iapply (wp_copy 𝒱₀ (c : Thread nD τ) none EC (Y := Y) (D := delV m c s j) () NB rfl h.isLt (Nat.zero_le _) (by unfold delV srcV; exact BI.Entails.refl _)) $$ [Hsv Hv HBv]
  · isplitl [Hsv]; · iexact Hsv
    isplitl [Hv] <;> iassumption
  iintro HBv
  iapply Hgo
  isplitr; · iempintro
  isplitl [HBk] <;> iassumption

theorem any_intro {sp : Space} {s : Shape} {e : EltTy} (b : Memref sig .tc sp s e) (X : s.Idx → Elt F e) :
    (isAt c b X : sProp 𝕄) ⊢ anyAt (F := F) c b := by
  iintro H
  iexists X
  iexact H

/-- All copies of a step started. -/
theorem issue_wp (s : Fin 2) (j : Fin 4) (K : P F PUnit) :
    iprop(slotFree c s ∗ src m c j ∗ slotSems c s)
      ⊢ iprop((copies m c s j 8 0 -∗ runs c K Q) -∗ runs c (each (issue1 s (offs c j)) K) Q) := by
  unfold slotFree src slotSems
  iintro ⟨Hf, Hs, Hz0, Hz1⟩ Hk
  imod (Transfers.batch_alloc' EC (c : Thread nD τ) () NB (delK m c s j) (E := Set.univ)) $$ Hz0 with HB0
  imod (Transfers.batch_alloc' EC (c : Thread nD τ) () NB (delV m c s j) (E := Set.univ)) $$ Hz1 with HB1
  iapply (each_wp c (R := fun i => copies m c s j i 0) (issue1_wp m c s j) K) $$ [Hf Hs HB0 HB1]
  · isplitl [Hf Hs]
    · rw [bigSep_sep' (s := (Finset.univ : Finset (Fin 8))) (Φ := fun h => iprop(anyAt (F := F) c (kvP kbM s h) ∗ anyAt (F := F) c (kvP vbM s h)))]
      isplitl [Hf] <;> iassumption
    unfold copies
    rw [Nat.zero_mul]
    isplitl [HB0] <;> iassumption
  iintro ⟨-, H⟩
  iapply Hk
  iexact H

/-- The copies' semaphores are none of the protocol's. -/
theorem slotSem_ne : ∀ (s v : Fin 2) (k : Ck), csem k ≠ .dma (slotSem s v) := by decide +kernel

theorem mayWait_slot (s v : Fin 2) (l : List (Dev nD × Ck)) (hl : ∀ x ∈ l, 0 < lvK x.2) :
    (levAts L lv : sProp 𝕄) ⊢ MayWait (c : Thread nD τ) (.dma (slotSem s v)) () (owe l) :=
  mayWait_owe c _ l 0 (by unfold lv; rw [kOf_ne (slotSem_ne s v)]; exact Nat.le_refl 0) hl

theorem wait1_wp (s : Fin 2) (j : Fin 4) (l : List (Dev nD × Ck)) (hl : ∀ x ∈ l, 0 < lvK x.2) (h : Fin 8) (K : P F PUnit) :
    iprop(levAts L lv ∗ iprop(copies m c s j 8 h.val ∗ Owes c l))
      ⊢ iprop((iprop(emp ∗ iprop(copies m c s j 8 (h.val + 1) ∗ Owes c l)) -∗ runs c K Q) -∗ runs c (wait1 s (offs c j) h K) Q) := by
  have hu : h.val * NB + 1 * NB ≤ NB * 8 := by
    rw [← Nat.add_mul, Nat.mul_comm]; exact Nat.mul_le_mul_left _ (by omega)
  unfold copies wait1 Owes
  rw [Nat.add_mul]
  iintro ⟨#Hlev, ⟨HBk, HBv⟩, %W, HO⟩ Hgo
  iapply (Transfers.wp_waitBatchMulO EC 𝒱₀ (c : Thread nD τ) none () (N := NB) 1 (by rw [Nat.one_mul]; rfl) (D := delK m c s j) hu (O := owe l) (W := W)) $$ [HBk HO]
  · isplitl [HBk]; · iexact HBk
    isplitl [HO]; · iexact HO
    iapply (mayWait_slot c s 0 l hl); iexact Hlev
  iintro ⟨HBk, HO⟩
  iapply (Transfers.wp_waitBatchMulO EC 𝒱₀ (c : Thread nD τ) none () (N := NB) 1 (by rw [Nat.one_mul]; rfl) (D := delV m c s j) hu (O := owe l)) $$ [HBv HO]
  · isplitl [HBv]; · iexact HBv
    isplitl [HO]; · iexact HO
    iapply (mayWait_slot c s 1 l hl); iexact Hlev
  iintro ⟨HBv, HO⟩
  iapply Hgo
  isplitr; · iempintro
  isplitl [HBk HBv]
  · isplitl [HBk] <;> iassumption
  iexists _; iexact HO

theorem del_full (s : Fin 2) (j : Fin 4) :
    iprop(bigSep Finset.univ (delK m c s j) ∗ bigSep Finset.univ (delV m c s j)) ⊢ iprop(slotFull m c s j ∗ src m c j) := by
  have e (h : Fin 8) : iprop(delK m c s j h ∗ delV m c s j h)
      ⊢ iprop(iprop(isAt c (kvP kbM s h) (kTile m c j h) ∗ isAt c (kvP vbM s h) (vTile m c j h)) ∗ iprop(srcK m c j h ∗ srcV m c j h)) := by
    unfold delK delV
    iintro ⟨⟨H1, H2⟩, H3, H4⟩
    isplitl [H1 H3]
    · isplitl [H1]
      · iapply (Entails.of_eq (owns_squeezed (c : Thread nD τ) (kvP kbM s h) squeezes_S1x1x1024x128_S1024x128 fullShare _)); iexact H1
      · iapply (Entails.of_eq (owns_squeezed (c : Thread nD τ) (kvP vbM s h) squeezes_S1x1x1024x128_S1024x128 fullShare _)); iexact H3
    · isplitl [H2] <;> iassumption
  unfold slotFull src
  rw [← bigSep_sep', ← bigSep_sep']
  exact bigSep_mono fun h _ => e h

/-- All copies of a step waited for. -/
theorem wait_wp (s : Fin 2) (j : Fin 4) (l : List (Dev nD × Ck)) (hl : ∀ x ∈ l, 0 < lvK x.2) (K : P F PUnit) :
    iprop(levAts L lv ∗ copies m c s j 8 0 ∗ Owes c l)
      ⊢ iprop((iprop(slotFull m c s j ∗ src m c j ∗ slotSems c s ∗ Owes c l) -∗ runs c K Q) -∗ runs c (each (wait1 s (offs c j)) K) Q) := by
  iintro ⟨#Hlev, HB, HO⟩ Hk
  iapply (each_wp c (A := fun _ => levAts L lv) (R := fun i => iprop(copies m c s j 8 i ∗ Owes c l)) (wait1_wp m c s j l hl) K) $$ [HB HO]
  · isplitr
    · iapply (BI.bigSep_of_persistent Finset.univ (levAts L lv : sProp 𝕄)); iexact Hlev
    isplitl [HB] <;> iassumption
  iintro ⟨-, HB, HO⟩
  unfold copies
  rw [Nat.mul_comm 8 NB]
  icases HB with ⟨HB0, HB1⟩
  imod (Transfers.batch_collect' EC (c : Thread nD τ) NB_pos) $$ HB0 with ⟨HD0, Hz0⟩
  imod (Transfers.batch_collect' EC (c : Thread nD τ) NB_pos) $$ HB1 with ⟨HD1, Hz1⟩
  ihave H := (del_full m c s j) $$ [HD0 HD1]
  · isplitl [HD0] <;> iassumption
  icases H with ⟨Hf, Hs⟩
  iapply Hk
  isplitl [Hf]; · iexact Hf
  isplitl [Hs]; · iexact Hs
  isplitl [Hz0 Hz1]
  · unfold slotSems; isplitl [Hz0] <;> iassumption
  iexact HO

/-! ## The heads -/

theorem hz : (![0, 0] : Fin 2 → ℕ) = fun _ => 0 := funext fun a => by fin_cases a <;> rfl

/-- What the steps work with: the input's rows, the queries and the heads' outputs. -/
def scratch : sProp 𝕄 := iprop(isAt c xM (xV m c) ∗ anyAt (F := F) c qM ∗ anyAt (F := F) c aM)

/-- A store of a whole buffer. -/
theorem wp_store_whole {b : Ref sig .tc} {cs : CoreSpace} {s : Shape} {e : EltTy} {mm : Memref sig .tc cs s e} {r : Rect s} {w : r.shape.Idx → Elt F e}
    {hx : (mm.access r).Stores Finset.univ} {hm : Finset.univ = Finset.univ ∨ ∀ a, r.stride a = 1}
    {k : PUnit → P F PUnit} (X : s.Idx → Elt F e) (Y : s.Idx → Elt F e)
    (hw : ∀ f, mm.view.read (Elt F) ((mm.access r).write (Elt F) f w Finset.univ) = Y) :
    (isAt c mm X : sProp 𝕄) ⊢ iprop((isAt c mm Y -∗ runs c (k ⟨⟩) Q) -∗ runs c (.op (.store mm r w Finset.univ hx hm) k) Q) := by
  unfold isAt owns
  iintro ⟨%f, %hf, H⟩ Hk
  iapply (wp_store 𝒱₀ (c : Thread nD τ) none Set.univ (m := mm) (r := r) (w := w) (Mk := Finset.univ) (hx := hx) (hm := hm) (S := mm.view.set)
    (mm.view.set_slice_subset r)) $$ H
  iintro H
  iapply Hk
  iexists _
  isplitr; · ipureintro; exact hw f
  iexact H

/-- The queries of a step. -/
theorem q_wp (j : Fin 4) (K : P F PUnit) :
    iprop(isAt c xM (xV m c) ∗ anyAt (F := F) c qM)
      ⊢ iprop((iprop(isAt c xM (xV m c) ∗ isAt c qM (qAt m c j)) -∗ runs c K Q) -∗ runs c (qStep (wqS m c) (rows c j) K) Q) := by
  unfold qStep
  iintro ⟨Hx, %X, Hq⟩ Hk
  iapply (wp_load_owns 𝒱₀ (c : Thread nD τ) none) $$ Hx
  iintro Hx
  iapply (wp_load_owns 𝒱₀ (c : Thread nD τ) none) $$ Hq
  iintro Hq
  iapply (wp_store_whole c X (qAt m c j) (b := cc0_scratch3) (fun f => by
    rw [show (qM : Memref sig .tc .vmem S256x1024 .bf16).view.read (Elt F) = fun f => f from funext fun f => View.read_whole _ _]
    exact Memref.write_access_unit_zero_univ (Elt F) cc0_scratch3 hz _ f _)) $$ Hq
  iintro Hq
  iapply Hk
  isplitl [Hx] <;> iassumption

/-- A head's columns of the outputs. -/
abbrev aP (h : Fin 8) : Memref sig .tc .vmem (headR h).shape .bf16 := aM.slice (headR h) (fun _ => rfl)

theorem head_wp (s : Fin 2) (j : Fin 4) (h : Fin 8) (K : P F PUnit) :
    iprop(iprop(anyAt c (aP h) ∗ iprop(isAt c (kvP kbM s h) (kTile m c j h) ∗ isAt c (kvP vbM s h) (vTile m c j h))) ∗ isAt c qM (qAt m c j))
      ⊢ iprop((iprop(iprop(isAt c (aP h) (headAt m c j h) ∗ iprop(anyAt c (kvP kbM s h) ∗ anyAt c (kvP vbM s h))) ∗ isAt c qM (qAt m c j)) -∗ runs c K Q)
        -∗ runs c (headStep s h K) Q) := by
  unfold headStep
  iintro ⟨⟨⟨%X, Ha⟩, Hk, Hv⟩, Hq⟩ Hgo
  iapply (wp_load_owns 𝒱₀ (c : Thread nD τ) none) $$ Hq
  iintro Hq
  iapply (wp_load_slice 𝒱₀ (c : Thread nD τ) none (fun _ => rfl)) $$ Hk
  iintro Hk
  iapply (wp_load_slice 𝒱₀ (c : Thread nD τ) none (fun _ => rfl)) $$ Hv
  iintro Hv
  iapply (wp_load_slice 𝒱₀ (c : Thread nD τ) none (fun _ => rfl)) $$ Ha
  iintro Ha
  iapply (wp_store_slice 𝒱₀ (c : Thread nD τ) none (fun _ => rfl)) $$ Ha
  iintro Ha
  iapply Hgo
  isplitr [Hq]
  · isplitl [Ha]; · unfold headAt; iexact Ha
    isplitl [Hk]
    · iexists _; iexact Hk
    · iexists _; iexact Hv
  iexact Hq

theorem any_heads : anyAt (F := F) c aM ⊢ bigSep Finset.univ fun h : Fin 8 => anyAt (F := F) c (aP h) := by
  iintro ⟨%X, H⟩
  iapply (show (bigSep Finset.univ fun h : Fin 8 => (isAt c (aP h) (fun i => X ((headR h).emb i)) : sProp 𝕄)) ⊢ bigSep Finset.univ fun h : Fin 8 => anyAt (F := F) c (aP h)
    from bigSep_mono fun h _ => any_intro c (aP h) _)
  iapply (owns_rects (c : Thread nD τ) aM fullShare headR (fun _ _ => rfl) head_disj head_cov X)
  iexact H

theorem is_heads (j : Fin 4) : (bigSep Finset.univ fun h : Fin 8 => isAt c (aP h) (headAt m c j h)) ⊢ isAt c aM (attnAt m c j) := by
  rw [bigSep_congr (s := (Finset.univ : Finset (Fin 8))) (Ψ := fun h => isAt c (aP h) (fun i => attnAt m c j ((headR h).emb i)))
    (fun h _ => by rw [attnAt_head])]
  exact owns_of_rects (c : Thread nD τ) aM fullShare headR (fun _ _ => rfl) head_disj head_cov (attnAt m c j)

/-- The eight heads of a step. -/
theorem heads_wp (s : Fin 2) (j : Fin 4) (K : P F PUnit) :
    iprop(anyAt (F := F) c aM ∗ slotFull m c s j ∗ isAt c qM (qAt m c j))
      ⊢ iprop((iprop(isAt c aM (attnAt m c j) ∗ slotFree c s ∗ isAt c qM (qAt m c j)) -∗ runs c K Q) -∗ runs c (each (headStep s) K) Q) := by
  unfold slotFull slotFree
  iintro ⟨Ha, Hf, Hq⟩ Hk
  ihave Ha := (any_heads c) $$ Ha
  iapply (each_wp c (R := fun _ => isAt c qM (qAt m c j)) (head_wp m c s j) K) $$ [Ha Hf Hq]
  · isplitl [Ha Hf]
    · rw [bigSep_sep' (s := (Finset.univ : Finset (Fin 8))) (Φ := fun h => anyAt (F := F) c (aP h))]
      isplitl [Ha] <;> iassumption
    iexact Hq
  rw [bigSep_sep' (s := (Finset.univ : Finset (Fin 8))) (Φ := fun h => isAt c (aP h) (headAt m c j h))]
  iintro ⟨⟨Ha, Hf⟩, Hq⟩
  iapply Hk
  isplitl [Ha]; · iapply (is_heads m c j); iexact Ha
  isplitl [Hf] <;> iassumption

theorem unit_zero_emb (hb : ∀ a, (![0, 0] : Fin 2 → ℕ) a + S256x1024.size a ≤ S256x1024.size a) (i : S256x1024.Idx) :
    (Rect.unit (s := S256x1024) ![0, 0] S256x1024.size hb).emb i = i := by
  refine funext fun a => Fin.ext ?_
  show (![0, 0] : Fin 2 → ℕ) a + 1 * (i a).val = (i a).val
  rw [hz]
  show 0 + 1 * (i a).val = (i a).val
  rw [Nat.zero_add, Nat.one_mul]

/-- A step up to the heads' outputs, with whatever the next step's copies need and give. -/
theorem attn_wp (s : Fin 2) (j : Fin 4) (l : List (Dev nD × Ck)) (hl : ∀ x ∈ l, 0 < lvK x.2) {next : P F PUnit → P F PUnit} {A B : sProp 𝕄}
    (hn : ∀ K : P F PUnit, A ⊢ iprop((B -∗ runs c K Q) -∗ runs c (next K) Q)) (K : Vec F S256x1024 .bf16 → P F PUnit) :
    iprop(levAts L lv ∗ scratch m c ∗ copies m c s j 8 0 ∗ Owes c l ∗ A)
      ⊢ iprop((iprop(scratch m c ∗ slotFree c s ∗ src m c j ∗ slotSems c s ∗ Owes c l ∗ B) -∗ runs c (K (attnAt m c j)) Q)
        -∗ runs c (attnStep (wqS m c) (rows c j) s (offs c j) next K) Q) := by
  unfold attnStep scratch
  iintro ⟨#Hlev, ⟨Hx, Hq, Ha⟩, HB, HO, HA⟩ Hk
  iapply (q_wp m c j _) $$ [Hx Hq]
  · isplitl [Hx] <;> iassumption
  iintro ⟨Hx, Hq⟩
  iapply (wait_wp m c s j l hl _) $$ [HB HO]
  · isplitr; · iexact Hlev
    isplitl [HB] <;> iassumption
  iintro ⟨Hf, Hs, Hz, HO⟩
  iapply (hn _) $$ HA
  iintro HB
  iapply (heads_wp m c s j _) $$ [Ha Hf Hq]
  · isplitl [Ha]; · iexact Ha
    isplitl [Hf] <;> iassumption
  iintro ⟨Ha, Hf, Hq⟩
  unfold loadAttn
  iapply (wp_load_owns 𝒱₀ (c : Thread nD τ) none) $$ Ha
  iintro Ha
  iapply (Entails.of_eq (congrArg (fun a => runs c (K a) Q) (funext fun i => congrArg (attnAt m c j) (unit_zero_emb _ i)).symm))
  iapply Hk
  isplitl [Hx Hq Ha]
  · isplitl [Hx]; · iexact Hx
    isplitl [Hq]
    · iexists _; iexact Hq
    · iexists _; iexact Ha
  isplitl [Hf]; · iexact Hf
  isplitl [Hs]; · iexact Hs
  isplitl [Hz]; · iexact Hz
  isplitl [HO] <;> iassumption

/-! ## Storing and staging a chunk -/

abbrev outP (k : Fin 4) : Memref sig .tc .vmem (rowB c k).rect.shape .f32 := outM.slice (rowB c k).rect (fun _ => rfl)

theorem storeOut_wp (k : Fin 4) (w : FVec F S256x1024 .f32) (K : P F PUnit) :
    anyAt (F := F) c (outP c k) ⊢ iprop((isAt c (outP c k) w -∗ runs c K Q) -∗ runs c (storeOut (rowB c k) w K) Q) := by
  unfold storeOut
  iintro ⟨%X, H⟩ Hk
  iapply (wp_load_slice 𝒱₀ (c : Thread nD τ) none (fun _ => rfl)) $$ H
  iintro H
  iapply (wp_store_slice 𝒱₀ (c : Thread nD τ) none (fun _ => rfl)) $$ H
  iexact Hk

theorem keep_wp (k : Fin 4) (j : Fin 4) (w : FVec F S256x1024 .f32) (K : P F PUnit) :
    iprop(anyAt (F := F) c (outP c k) ∗ anyAt (F := F) c (stP j))
      ⊢ iprop((iprop(isAt c (outP c k) w ∗ isAt c (stP j) (k0_pay35 w)) -∗ runs c K Q) -∗ runs c (keep (rowB c k) j w K) Q) := by
  unfold keep storeStage
  iintro ⟨Ho, Hs⟩ Hk
  iapply (storeOut_wp c k w _) $$ Ho
  iintro Ho
  icases Hs with ⟨%X, Hs⟩
  iapply (wp_load_slice 𝒱₀ (c : Thread nD τ) none (fun _ => rfl)) $$ Hs
  iintro Hs
  iapply (wp_store_slice 𝒱₀ (c : Thread nD τ) none (fun _ => rfl)) $$ Hs
  iintro Hs
  iapply Hk
  isplitl [Ho] <;> iassumption

end Cert.KernelIdeal.Attn
-- ==== Proof.Comm.lean ====
module
public import proofs.«01_k».proof.Proof.Steps
public import Idealize.ShloMosaic.Lib.Tactic

/-! The steps of the body that other devices take part in: the handshake, the transfers and the waits for them. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

variable (m : (ℓ : Loc nD τ sig) → Buf (Elt F) ℓ) (K : Dev nD × Ck → ℕ) (c : Dev nD) {Q : PUnit → sProp (MT nD τ sig Unit (Elt F) ℕ UU ℕ)}

/-- What is owed after the handshake. -/
def due2 (c : Dev nD) : List (Dev nD × Ck) := (due c).drop 2

theorem due2_lt : ∀ (c : Dev nD), ∀ x ∈ due2 c, 1 < lvK x.2 := by decide +kernel

theorem duty_mem (k : Ck) (d : Bool) (h : d ∈ kDuties k) : d ∈ (sched (F := F) m).duties (kcell (c, k)) 0 := by
  rw [duties_k]; exact h

/-- Both signals and the wait: this device's planes go out, the neighbours' come in, and the barrier's cell is closed. -/
theorem handshake_wp (k : P F PUnit) :
    iprop(records m K ∗ levAts L lv ∗ Owes c (due c) ∗ cred (tallyAt (kcell (c, none)) () 2) ∗ atPos ER (kcell (c, none)) 0 ∅ 0
        ∗ dutyTok ER (kcell (prv c, none)) 0 true ∗ dutyTok ER (kcell (nxt c, none)) 0 false
        ∗ (anyAt c (commP 0) ∗ anyAt c (commP 1) ∗ anyAt c (commP 2) ∗ anyAt c (bcP 0)) ∗ (anyAt c (bcP 1) ∗ anyAt c (bcP 2)))
      ⊢ iprop((iprop(payK m c none false ∗ payK m c none true ∗ semVal (kcell (c, none)) 0 ∗ Owes c (due2 c)) -∗ runs c k Q)
        -∗ runs c (handshake c k) Q) := by
  unfold handshake Owes
  rw [dev1_eq c, dev2_eq c]
  iintro ⟨#HR, #Hlev, ⟨%W, HO⟩, Hc, Hat, Ht, Hf, Hp1, Hp2⟩ Hk
  iapply (Rounds.wp_signal 𝒱₀ ER (sched m) (c : Thread nD τ) none (dst := (prv c : Thread nD τ)) (κ := K (prv c, none))
      (d := true) (duty_mem m (prv c) none true (Finset.mem_univ _)) ((amount_k m (prv c) none true).trans (by decide)) () (owe ((nxt c, none) :: due2 c)) rfl)
    $$ [HO Ht Hp1]
  · isplitr; · iapply (inv_at m K (prv c, none)); iexact HR
    isplitl [HO]; · iexact HO
    isplitl [Ht]; · iexact Ht
    isplitl [Hp1]
    · iapply (show payK m (prv c) none true ⊢ (sched m).payload ((prv c : Thread nD τ), SemLoc.reg barSem) 0 true from Entails.of_eq (payload_k m (prv c) none true).symm); unfold payK; rw [nxt_prv]; iexact Hp1
    · iapply (reached_at m K (prv c, none)); iexact HR
  iintro HO
  iapply (Rounds.wp_signal 𝒱₀ ER (sched m) (c : Thread nD τ) none (dst := (nxt c : Thread nD τ)) (κ := K (nxt c, none))
      (d := false) (duty_mem m (nxt c) none false (Finset.mem_univ _)) ((amount_k m (nxt c) none false).trans (by decide)) () (owe (due2 c)) rfl)
    $$ [HO Hf Hp2]
  · isplitr; · iapply (inv_at m K (nxt c, none)); iexact HR
    isplitl [HO]; · iexact HO
    isplitl [Hf]; · iexact Hf
    isplitl [Hp2]
    · iapply (show payK m (nxt c) none false ⊢ (sched m).payload ((nxt c : Thread nD τ), SemLoc.reg barSem) 0 false from Entails.of_eq (payload_k m (nxt c) none false).symm); unfold payK; rw [prv_nxt]; iexact Hp2
    · iapply (reached_at m K (nxt c, none)); iexact HR
  iintro HO
  iapply (Rounds.wp_wait_rest_token 𝒱₀ ER (sched m) (c : Thread nD τ) none (κ := K (c, none)) (sm := csem none)
      (wpE_semWait_eq 𝒱₀ (c : Thread nD τ) none Set.univ) (Set.mem_univ _) () (O := owe (due2 c)) (W := W) (R := 0) (m := 0) (T := ∅)
      ((show 0 + (2#32 : BitVec 32).toNat = 2 by decide).trans (expect_bar m c).symm)) $$ [Hc HO Hat]
  · isplitr; · iapply (inv_at m K (c, none)); iexact HR
    isplitl [Hc]; · iexact Hc
    isplitl [HO]; · iexact HO
    isplitr
    · iapply (mayWait_owe c (csem none) (due2 c) 1 (Nat.le_of_eq (lv_k c none)) (due2_lt c)); iexact Hlev
    iexact Hat
  iintro ⟨HO, Hat, -, Hpay⟩
  ihave Hp := (Entails.of_eq (rest_bar m c)) $$ Hpay
  icases Hp with ⟨Hp1, Hp2⟩
  imod (Rounds.cell_close ER (sched m) (Set.mem_univ (K (c, none))) (fun h => h) (R := 0 + 1) (duties_later m (kcell (c, none)))) $$ [Hat] with Hz
  · isplitr; · iapply (inv_at m K (c, none)); iexact HR
    iexact Hat
  iapply Hk
  isplitl [Hp1]; · iexact Hp1
  isplitl [Hp2]; · iexact Hp2
  isplitl [Hz]; · iexact Hz
  iexists _; iexact HO

/-- A transfer of staged chunk `j` to device `dst`. -/
theorem send_wp {a a' : Fin 4} {j : Fin 4} {mm : Memref sig .tc .vmem S3x256x1024 .bf16} {hm : mm.IsWhole} {k : Fin 3} {n dst : Dev nD} (hn : n = dst)
    {q : PosShare TreeShare} {X : Vec F S1x256x1024 .bf16} {R : sProp (MT nD τ sig Unit (Elt F) ℕ UU ℕ)} (l : List (Dev nD × Ck))
    (hN : (threeS mm k).view.dmaCredit = NT)
    (hp₁ : owns (c : Thread nD τ) (stP j) q X ⊢ payK m c (some (a, k)) false)
    (hp₂ : iprop(isAt dst (mm.slice (threeR k) (fun _ => rfl)) X ∗ R) ⊢ payK m dst (some (a', k)) false) (K' : P F PUnit) :
    iprop(records m K ∗ owns (c : Thread nD τ) (stP j) q X ∗ (anyAt dst (mm.slice (threeR k) (fun _ => rfl)) ∗ R)
        ∗ Owes c ((dst, some (a', k)) :: l) ∗ dutyTok ER (kcell (c, some (a, k))) 0 false ∗ dutyTok ER (kcell (dst, some (a', k))) 0 false)
      ⊢ iprop((iprop(cred (tallyAt (kcell (c, some (a, k))) () NT) ∗ Owes c l) -∗ runs c K' Q)
        -∗ runs c (send j mm hm k (arr a) (arr a') n K') Q) := by
  subst hn
  unfold send Owes
  iintro ⟨#HR, Hs, ⟨Hd, HRR⟩, ⟨%W, HO⟩, Ht1, Ht2⟩ Hk
  ihave Hd := (any_squeeze n (mm.slice (threeR k) (fun _ => rfl)) squeezes_S1x256x1024_S256x1024) $$ Hd
  icases Hd with ⟨%Y, Hd⟩
  iapply (wp_send_owns 𝒱₀ ER (sched m) (c : Thread nD τ) none (κ₁ := K (c, some (a, k))) (κ₂ := K (n, some (a', k)))
      (c' := (n : Thread nD τ)) (src := fourS stM j) (dst := threeS mm k) (sS := csem (some (a, k))) (sem := csem (some (a', k)))
      (X := fun i => X (Shape.reshapeEquiv squeezes_S1x256x1024_S256x1024.numel_eq i)) (Y := Y) (R := R) (q := q) (d₁ := false) (d₂ := false)
      (duty_mem m c (some (a, k)) false (Finset.mem_singleton_self _)) (duty_mem m n (some (a', k)) false (Finset.mem_singleton_self _))
      () NT hN (amount_k m c (some (a, k)) false) (amount_k m n (some (a', k)) false) (owe l) (show owe ((n, some (a', k)) :: l) = owe l + tallyAt (kcell (n, some (a', k))) () NT from rfl) (W := W)
      (((Entails.of_eq (owns_squeeze (c : Thread nD τ) (stP j) squeezes_S1x256x1024_S256x1024 q X)).trans hp₁).trans (Entails.of_eq (payload_k m c (some (a, k)) false).symm))
      (((sep_mono_left (Entails.of_eq (owns_squeeze (n : Thread nD τ) (mm.slice (threeR k) (fun _ => rfl)) squeezes_S1x256x1024_S256x1024 fullShare X))).trans hp₂).trans (Entails.of_eq (payload_k m n (some (a', k)) false).symm)))
    $$ [Hs Hd HRR HO Ht1 Ht2]
  · isplitr; · iapply (inv_at m K (c, some (a, k))); iexact HR
    isplitr; · iapply (inv_at m K (n, some (a', k))); iexact HR
    isplitl [Hs]
    · iapply (Entails.of_eq (owns_squeeze (c : Thread nD τ) (stP j) squeezes_S1x256x1024_S256x1024 q X).symm); iexact Hs
    isplitl [Hd HRR]
    · isplitl [Hd] <;> iassumption
    isplitl [HO]; · iexact HO
    isplitl [Ht1]; · iexact Ht1
    isplitr; · iapply (reached_at m K (c, some (a, k))); iexact HR
    isplitl [Ht2]; · iexact Ht2
    iapply (reached_at m K (n, some (a', k))); iexact HR
  iintro ⟨Hc, HO⟩
  iapply Hk
  isplitl [Hc]; · iexact Hc
  iexists W; iexact HO

/-- A wait for a transfer: its payload comes, and its cell is closed. -/
theorem wait_cell {x : Fin 4 × Fin 3} {sp sp' : Space} {s s' : Shape} {e e' : EltTy} {sr : Memref sig .tc sp s e} {ds : Memref sig .tc sp' s' e'}
    {hs : sr.view.WordExact} {hd : ds.view.WordExact} (hN : ds.view.dmaCredit = NT) (l : List (Dev nD × Ck)) (hl : ∀ y ∈ l, lvK (some x) < lvK y.2)
    (k : PUnit → P F PUnit) :
    iprop(records m K ∗ levAts L lv ∗ cred (tallyAt (kcell (c, some x)) () NT) ∗ Owes c l ∗ atPos ER (kcell (c, some x)) 0 ∅ 0)
      ⊢ iprop((iprop(payK m c (some x) false ∗ semVal (kcell (c, some x)) 0 ∗ Owes c l) -∗ runs c (k ⟨⟩) Q)
        -∗ runs c (.op (.waitDma2 (sem3 (arr x.1) x.2) sr ds hs hd) k) Q) := by
  unfold Owes
  iintro ⟨#HR, #Hlev, Hc, ⟨%W, HO⟩, Hat⟩ Hk
  iapply (Rounds.wp_wait_rest_token 𝒱₀ ER (sched m) (c : Thread nD τ) none (κ := K (c, some x)) (sm := csem (some x))
      (wpE_waitDma2_eq 𝒱₀ (c : Thread nD τ) none Set.univ) (Set.mem_univ _) () (O := owe l) (W := W) (R := 0) (m := 0) (T := ∅)
      ((Nat.zero_add _).trans (hN.trans (expect_some m c x).symm))) $$ [Hc HO Hat]
  · isplitr; · iapply (inv_at m K (c, some x)); iexact HR
    isplitl [Hc]; · iapply (Entails.of_eq (congrArg (fun n => (cred (tallyAt (kcell (c, some x)) () n) : sProp 𝕄)) hN.symm)); iexact Hc
    isplitl [HO]; · iexact HO
    isplitr
    · iapply (mayWait_owe c (csem (some x)) l (lvK (some x)) (Nat.le_of_eq (lv_k c (some x))) hl); iexact Hlev
    iexact Hat
  iintro ⟨HO, Hat, -, Hpay⟩
  ihave Hp := (Entails.of_eq (rest_some m c x)) $$ Hpay
  imod (Rounds.cell_close ER (sched m) (Set.mem_univ (K (c, some x))) (fun h => h) (R := 0 + 1) (duties_later m (kcell (c, some x)))) $$ [Hat] with Hz
  · isplitr; · iapply (inv_at m K (c, some x)); iexact HR
    iexact Hat
  iapply Hk
  isplitl [Hp]; · iexact Hp
  isplitl [Hz]; · iexact Hz
  iexists _; iexact HO

/-- The chunk from the neighbour taken in, and the step's own chunk with it stored and staged. -/
theorem ring_wp {i j : Fin 4} {kk : Fin 4} {k : Fin 3} (X : Vec F S1x256x1024 .bf16) {R : sProp (MT nD τ sig Unit (Elt F) ℕ UU ℕ)}
    (hN : (threeS commM k).view.dmaCredit = NT) (l : List (Dev nD × Ck)) (hl : ∀ y ∈ l, lvK (some (1, k)) < lvK y.2)
    (hp : payK m c (some (1, k)) false ⊢ iprop(isAt c (commP k) X ∗ R))
    (wo : FVec F S1024x1024 .bf16) (a : Vec F S256x1024 .bf16) (K' : P F PUnit) :
    iprop(records m K ∗ levAts L lv ∗ cred (tallyAt (kcell (c, some (1, k))) () NT) ∗ Owes c l ∗ atPos ER (kcell (c, some (1, k))) 0 ∅ 0
        ∗ anyAt (F := F) c (outP c kk) ∗ anyAt (F := F) c (stP j))
      ⊢ iprop((iprop(isAt c (commP k) X ∗ R ∗ semVal (kcell (c, some (1, k))) 0 ∗ Owes c l
            ∗ isAt c (outP c kk) (k0_pay34 wo a X) ∗ isAt c (stP j) (k0_pay35 (k0_pay34 wo a X))) -∗ runs c K' Q)
        -∗ runs c (ringStep (rowB c kk) j k i wo a K') Q) := by
  unfold ringStep waitRecv loadThree
  iintro ⟨#HR, #Hlev, Hc, HO, Hat, Ho, Hs⟩ Hk
  iapply (wait_cell m K c (x := (1, k)) hN l hl _) $$ [Hc HO Hat]
  · isplitr; · iexact HR
    isplitr; · iexact Hlev
    isplitl [Hc]; · iexact Hc
    isplitl [HO] <;> iassumption
  iintro ⟨Hp, Hz, HO⟩
  ihave Hp := hp $$ Hp
  icases Hp with ⟨Hp, HRR⟩
  iapply (wp_load_slice 𝒱₀ (c : Thread nD τ) none (fun _ => rfl)) $$ Hp
  iintro Hp
  iapply (keep_wp c kk j _ K') $$ [Ho Hs]
  · isplitl [Ho] <;> iassumption
  iintro ⟨Ho, Hs⟩
  iapply Hk
  isplitl [Hp]; · iexact Hp
  isplitl [HRR]; · iexact HRR
  isplitl [Hz]; · iexact Hz
  isplitl [HO]; · iexact HO
  isplitl [Ho] <;> iassumption

/-- A finished chunk taken in. -/
theorem take_wp {kk : Fin 4} {k : Fin 3} (X : Vec F S1x256x1024 .bf16)
    (hN : (threeS bcM k).view.dmaCredit = NT)
    (hp : payK m c (some (3, k)) false ⊢ iprop(isAt c (bcP k) X ∗ emp)) (K' : P F PUnit) :
    iprop(records m K ∗ levAts L lv ∗ cred (tallyAt (kcell (c, some (3, k))) () NT) ∗ Owes c [] ∗ atPos ER (kcell (c, some (3, k))) 0 ∅ 0
        ∗ anyAt (F := F) c (outP c kk))
      ⊢ iprop((iprop(anyAt c (bcP k) ∗ semVal (kcell (c, some (3, k))) 0 ∗ Owes c [] ∗ isAt c (outP c kk) (k0_pay68 X)) -∗ runs c K' Q)
        -∗ runs c (takeChunk k (rowB c kk) K') Q) := by
  unfold takeChunk waitRecv loadThree
  iintro ⟨#HR, #Hlev, Hc, HO, Hat, Ho⟩ Hk
  iapply (wait_cell m K c (x := (3, k)) hN [] (fun y hy => absurd hy List.not_mem_nil) _) $$ [Hc HO Hat]
  · isplitr; · iexact HR
    isplitr; · iexact Hlev
    isplitl [Hc]; · iexact Hc
    isplitl [HO] <;> iassumption
  iintro ⟨Hp, Hz, HO⟩
  ihave Hp := hp $$ Hp
  icases Hp with ⟨Hp, -⟩
  iapply (wp_load_slice 𝒱₀ (c : Thread nD τ) none (fun _ => rfl)) $$ Hp
  iintro Hp
  iapply (storeOut_wp c kk _ K') $$ Ho
  iintro Ho
  iapply Hk
  isplitl [Hp]; · iexists _; iexact Hp
  isplitl [Hz]; · iexact Hz
  isplitl [HO] <;> iassumption

end Cert.KernelIdeal.Attn
-- ==== Proof.BodyKit.lean ====
module
public import proofs.«01_k».proof.Proof.Comm
public import Idealize.ShloMosaic.Lib.Tactic

/-! The whole body: from what a device starts with to its result. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

variable (m : (ℓ : Loc nD τ sig) → Buf (Elt F) ℓ) (K : Dev nD × Ck → ℕ) (c : Dev nD) {Q : PUnit → sProp (MT nD τ sig Unit (Elt F) ℕ UU ℕ)}

/-! ## Big conjunctions written out -/

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_bool (Φ : Bool → sProp 𝕄) : bigSep Finset.univ Φ = iprop(Φ false ∗ Φ true) :=
  bigSep_univ_eq_bigSepL [false, true] (by decide) (by decide) Φ
theorem bigSep_ck (Φ : Ck → sProp 𝕄) : bigSep Finset.univ Φ = iprop(Φ none
    ∗ (Φ (some (0, 0)) ∗ Φ (some (0, 1)) ∗ Φ (some (0, 2))) ∗ (Φ (some (1, 0)) ∗ Φ (some (1, 1)) ∗ Φ (some (1, 2)))
    ∗ (Φ (some (2, 0)) ∗ Φ (some (2, 1)) ∗ Φ (some (2, 2))) ∗ (Φ (some (3, 0)) ∗ Φ (some (3, 1)) ∗ Φ (some (3, 2)))) := by
  rw [bigSep_univ_eq_bigSepL [none, some (0, 0), some (0, 1), some (0, 2), some (1, 0), some (1, 1), some (1, 2), some (2, 0), some (2, 1), some (2, 2),
    some (3, 0), some (3, 1), some (3, 2)] (by decide) (by decide) Φ]
  refine BI.equiv_iff.mp ⟨?_, ?_⟩
  · show iprop(Φ none ∗ Φ (some (0, 0)) ∗ Φ (some (0, 1)) ∗ Φ (some (0, 2)) ∗ Φ (some (1, 0)) ∗ Φ (some (1, 1)) ∗ Φ (some (1, 2))
      ∗ Φ (some (2, 0)) ∗ Φ (some (2, 1)) ∗ Φ (some (2, 2)) ∗ Φ (some (3, 0)) ∗ Φ (some (3, 1)) ∗ Φ (some (3, 2))) ⊢ _
    iintro ⟨H, H00, H01, H02, H10, H11, H12, H20, H21, H22, H30, H31, H32⟩
    isplitl [H]; · iexact H
    isplitl [H00 H01 H02]
    · isplitl [H00]; · iexact H00
      isplitl [H01] <;> iassumption
    isplitl [H10 H11 H12]
    · isplitl [H10]; · iexact H10
      isplitl [H11] <;> iassumption
    isplitl [H20 H21 H22]
    · isplitl [H20]; · iexact H20
      isplitl [H21] <;> iassumption
    isplitl [H30]; · iexact H30
    isplitl [H31] <;> iassumption
  · show _ ⊢ iprop(Φ none ∗ Φ (some (0, 0)) ∗ Φ (some (0, 1)) ∗ Φ (some (0, 2)) ∗ Φ (some (1, 0)) ∗ Φ (some (1, 1)) ∗ Φ (some (1, 2))
      ∗ Φ (some (2, 0)) ∗ Φ (some (2, 1)) ∗ Φ (some (2, 2)) ∗ Φ (some (3, 0)) ∗ Φ (some (3, 1)) ∗ Φ (some (3, 2)))
    iintro ⟨H, ⟨H00, H01, H02⟩, ⟨H10, H11, H12⟩, ⟨H20, H21, H22⟩, H30, H31, H32⟩
    isplitl [H]; · iexact H
    isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    isplitl [H30]; · iexact H30
    isplitl [H31] <;> iassumption

/-! ## Cutting buffers and putting them together -/

section Cut
variable {sp : Space} {sh : Shape} {e : EltTy} {T : Type} [Fintype T] [DecidableEq T] (b : Memref sig .tc sp sh e) (r : T → Rect sh)
  (hr : ∀ t a, (r t).stride a = 1) (hd : ∀ t t', t ≠ t' → Disjoint (r t).set (r t').set)
  (hcov : (Finset.univ : Finset T).biUnion (fun t => (r t).set) = Finset.univ)

include hd hcov in
theorem any_cut : anyAt (F := F) c b ⊢ bigSep Finset.univ fun t => anyAt (F := F) c (b.slice (r t) (hr t)) := by
  iintro ⟨%X, H⟩
  iapply (show (bigSep Finset.univ fun t => (isAt c (b.slice (r t) (hr t)) (fun i => X ((r t).emb i)) : sProp 𝕄))
      ⊢ bigSep Finset.univ fun t => anyAt (F := F) c (b.slice (r t) (hr t)) from bigSep_mono fun t _ => any_intro c _ _)
  iapply (owns_rects (c : Thread nD τ) b fullShare r hr hd hcov X)
  iexact H

include hd hcov in
theorem any_join : (bigSep Finset.univ fun t => anyAt (F := F) c (b.slice (r t) (hr t))) ⊢ anyAt (F := F) c b := by
  iintro H
  ihave H := (BI.bigSep_exists_pi Finset.univ (fun t (X : (r t).shape.Idx → Elt F e) => (isAt c (b.slice (r t) (hr t)) X : sProp 𝕄))) $$ H
  icases H with ⟨%Xs, H⟩
  iexists (Rect.glue r hcov Xs)
  iapply (owns_of_rects (c : Thread nD τ) b fullShare r hr hd hcov (Rect.glue r hcov Xs))
  rw [show (fun t => owns (Ix := Unit) (Name := ℕ) (U := UU) (Lvl := ℕ) (c : Thread nD τ) (b.slice (r t) (hr t)) fullShare (fun j => Rect.glue r hcov Xs ((r t).emb j)))
      = fun t => (isAt c (b.slice (r t) (hr t)) (Xs t) : sProp 𝕄) from
    funext fun t => congrArg _ (funext fun y => Rect.glue_emb r hcov hd Xs t y)]
  iexact H
end Cut

/-- The result's chunks make the result. -/
theorem is_out : (bigSep Finset.univ fun k : Fin 4 => isAt c (outP c k) (outChunk m c k)) ⊢ isAt c outM (outAt m c) := by
  rw [bigSep_congr (s := (Finset.univ : Finset (Fin 4))) (Ψ := fun k => isAt c (outP c k) (fun i => outAt m c ((rowB c k).rect.emb i)))
    (fun k _ => by rw [outAt_row])]
  exact owns_of_rects (c : Thread nD τ) outM fullShare (fun k => (rowB c k).rect) (fun _ _ => rfl) (row_disj c) (row_cov c) (outAt m c)

/-- A staged chunk lent out in three shares. -/
theorem is_thirds {sp : Space} {sh : Shape} {e : EltTy} (b : Memref sig .tc sp sh e) (X : sh.Idx → Elt F e) :
    (isAt c b X : sProp 𝕄) ⊣⊢ iprop(owns (Ix := Unit) (Name := ℕ) (U := UU) (Lvl := ℕ) (c : Thread nD τ) b (third 0) X
      ∗ owns (Ix := Unit) (Name := ℕ) (U := UU) (Lvl := ℕ) (c : Thread nD τ) b (third 1) X
      ∗ owns (Ix := Unit) (Name := ℕ) (U := UU) (Lvl := ℕ) (c : Thread nD τ) b (third 2) X) :=
  (owns_halves (c : Thread nD τ) b fullShare X).trans (sep_congr .rfl (owns_halves (c : Thread nD τ) b fullShare.right X))

/-! ## What a device starts from -/

theorem payToks_elim : payToks (F := F) c ⊢ iprop((dutyTok ER (kcell (nxt c, none)) 0 false ∗ dutyTok ER (kcell (prv c, none)) 0 true)
    ∗ bigSep Finset.univ fun x : Fin 4 × Fin 3 => dutyTok ER (kcell (peer (some x, false) c, some x)) 0 false) := by
  unfold payToks
  rw [bigSep_univ_prod, bigSep_ck]
  simp only [bigSep_bool]
  iintro ⟨H, ⟨⟨H00, -⟩, ⟨H01, -⟩, H02, -⟩, ⟨⟨H10, -⟩, ⟨H11, -⟩, H12, -⟩, ⟨⟨H20, -⟩, ⟨H21, -⟩, H22, -⟩, ⟨H30, -⟩, ⟨H31, -⟩, H32, -⟩
  isplitl [H]; · iexact H
  rw [bigSep_univ_prod, bigSep_fin4]
  simp only [bigSep_fin3]
  isplitl [H00 H01 H02]
  · isplitl [H00]; · iexact H00
    isplitl [H01] <;> iassumption
  isplitl [H10 H11 H12]
  · isplitl [H10]; · iexact H10
    isplitl [H11] <;> iassumption
  isplitl [H20 H21 H22]
  · isplitl [H20]; · iexact H20
    isplitl [H21] <;> iassumption
  isplitl [H30]; · iexact H30
  isplitl [H31] <;> iassumption

theorem creds_elim : creds (F := F) c ⊢ iprop(cred (tallyAt (kcell (c, none)) () 2)
    ∗ (cred (tallyAt (kcell (c, some (1, 0))) () NT) ∗ cred (tallyAt (kcell (c, some (1, 1))) () NT) ∗ cred (tallyAt (kcell (c, some (1, 2))) () NT))
    ∗ (cred (tallyAt (kcell (c, some (3, 0))) () NT) ∗ cred (tallyAt (kcell (c, some (3, 1))) () NT) ∗ cred (tallyAt (kcell (c, some (3, 2))) () NT))) := by
  have e1 (j : Fin 3) : tot (some (1, j)) * kAmt (some (1, j)) = NT := Nat.one_mul _
  have e3 (j : Fin 3) : tot (some (3, j)) * kAmt (some (3, j)) = NT := Nat.one_mul _
  unfold creds
  rw [bigSep_ck, e1, e1, e1, e3, e3, e3]
  iintro ⟨H, -, H1, -, H3⟩
  isplitl [H]; · iexact H
  isplitl [H1] <;> iassumption

/-! ## The steps, at their places -/

theorem step0_eq (wq wo : FVec F S1024x1024 .bf16) : step0 c wq wo =
    attnStep wq (rows c 0) 0 (offs c 0) (each (issue1 1 (offs c 1))) fun a =>
      keep (rowB c 0) 0 (k0_pay18 wo a) <| send 0 commM hcomm 0 (arr 0) (arr 1) ⟨k0_dev3 c, k0_dev3_lt c⟩ <| step1 c wq wo := by
  unfold step0; rw [rowA_eq]; rfl
theorem step1_eq (wq wo : FVec F S1024x1024 .bf16) : step1 c wq wo =
    attnStep wq (rows c 1) 1 (offs c 1) (each (issue1 0 (offs c 2))) fun a =>
      ringStep (rowB c 3) 1 0 0 wo a <| send 1 commM hcomm 1 (arr 0) (arr 1) ⟨k0_dev4 c, k0_dev4_lt c⟩ <| step2 c wq wo := by
  unfold step1; rw [rowA_eq]; rfl
theorem step2_eq (wq wo : FVec F S1024x1024 .bf16) : step2 c wq wo =
    attnStep wq (rows c 2) 0 (offs c 2) (each (issue1 1 (offs c 3))) fun a =>
      ringStep (rowB c 2) 2 1 1 wo a <| send 2 commM hcomm 2 (arr 0) (arr 1) ⟨k0_dev5 c, k0_dev5_lt c⟩ <| step3 c wq wo := by
  unfold step2; rw [rowA_eq]; rfl
theorem step3_eq (wq wo : FVec F S1024x1024 .bf16) : step3 c wq wo =
    attnStep wq (rows c 3) 1 (offs c 3) (fun K => K) fun a => ringStep (rowB c 1) 3 2 2 wo a <| broadcastOwn c := rfl

theorem opp_nxt (c : Dev nD) : opp (nxt c) = prv c := by revert c; decide

/-- What device `c`'s body starts with, beside the records and the levels. -/
def bodyPre : sProp 𝕄 :=
  iprop((bigSep Finset.univ fun k : Ck => atPos ER (kcell (c, k)) 0 ∅ 0) ∗ payToks c ∗ creds c ∗ (slotSems c 0 ∗ slotSems c 1)
    ∗ (bigSep Finset.univ fun j : Fin 4 => src m c j)
    ∗ (anyAt c kbM ∗ anyAt c vbM ∗ anyAt c commM ∗ anyAt c qM ∗ anyAt c aM ∗ anyAt c stM ∗ anyAt c bcM)
    ∗ Owes c (due c) ∗ isAt c xM (xV m c) ∗ isAt c wqM (wqV m c) ∗ isAt c woM (woV m c) ∗ anyAt c outM)

/-- What it ends with. -/
def bodyPost : sProp 𝕄 :=
  iprop((bigSep Finset.univ fun k : Ck => semVal (kcell (c, k)) 0) ∗ (slotSems c 0 ∗ slotSems c 1)
    ∗ (bigSep Finset.univ fun j : Fin 4 => src m c j)
    ∗ (anyAt c kbM ∗ anyAt c vbM ∗ anyAt c commM ∗ anyAt c qM ∗ anyAt c aM ∗ anyAt c stM ∗ anyAt c bcM)
    ∗ Owes c [] ∗ isAt c xM (xV m c) ∗ isAt c wqM (wqV m c) ∗ isAt c woM (woV m c) ∗ isAt c outM (outAt m c))

theorem slots_cut : iprop(anyAt (F := F) c kbM ∗ anyAt (F := F) c vbM) ⊢ iprop(slotFree c 0 ∗ slotFree c 1) := by
  unfold slotFree
  rw [bigSep_sep' (s := (Finset.univ : Finset (Fin 8))) (Φ := fun h => anyAt (F := F) c (kvP kbM 0 h)),
    bigSep_sep' (s := (Finset.univ : Finset (Fin 8))) (Φ := fun h => anyAt (F := F) c (kvP kbM 1 h))]
  have e (b : Memref sig .tc .vmem S2x8x1024x128 .f32) : anyAt (F := F) c b ⊢ iprop((bigSep Finset.univ fun h : Fin 8 => anyAt (F := F) c (kvP b 0 h))
      ∗ bigSep Finset.univ fun h : Fin 8 => anyAt (F := F) c (kvP b 1 h)) := by
    refine (any_cut c b (fun t : Fin 2 × Fin 8 => kvbR t.1 t.2) (fun _ _ => rfl) kvb_disj kvb_cov).trans (Entails.of_eq ?_)
    rw [bigSep_univ_prod]
    exact bigSep_fin2 (F := F) _
  iintro ⟨H1, H2⟩
  ihave H1 := (e kbM) $$ H1
  ihave H2 := (e vbM) $$ H2
  icases H1 with ⟨H10, H11⟩
  icases H2 with ⟨H20, H21⟩
  isplitl [H10 H20]
  · isplitl [H10] <;> iassumption
  · isplitl [H11] <;> iassumption

theorem slots_join : iprop(slotFree c 0 ∗ slotFree c 1) ⊢ iprop(anyAt (F := F) c kbM ∗ anyAt (F := F) c vbM) := by
  unfold slotFree
  rw [bigSep_sep' (s := (Finset.univ : Finset (Fin 8))) (Φ := fun h => anyAt (F := F) c (kvP kbM 0 h)),
    bigSep_sep' (s := (Finset.univ : Finset (Fin 8))) (Φ := fun h => anyAt (F := F) c (kvP kbM 1 h))]
  have e (b : Memref sig .tc .vmem S2x8x1024x128 .f32) : iprop((bigSep Finset.univ fun h : Fin 8 => anyAt (F := F) c (kvP b 0 h))
      ∗ bigSep Finset.univ fun h : Fin 8 => anyAt (F := F) c (kvP b 1 h)) ⊢ anyAt (F := F) c b := by
    refine (Entails.of_eq ?_).trans (any_join c b (fun t : Fin 2 × Fin 8 => kvbR t.1 t.2) (fun _ _ => rfl) kvb_disj kvb_cov)
    rw [bigSep_univ_prod]
    exact (bigSep_fin2 (F := F) (fun a : Fin 2 => bigSep Finset.univ fun h : Fin 8 => anyAt (F := F) c (kvP b a h))).symm
  iintro ⟨⟨H10, H20⟩, H11, H21⟩
  isplitl [H10 H11]
  · iapply (e kbM); isplitl [H10] <;> iassumption
  · iapply (e vbM); isplitl [H20] <;> iassumption

theorem planes3_cut (b : Memref sig .tc .vmem S3x256x1024 .bf16) : anyAt (F := F) c b ⊢ iprop(anyAt (F := F) c (b.slice (threeR 0) (fun _ => rfl))
    ∗ anyAt (F := F) c (b.slice (threeR 1) (fun _ => rfl)) ∗ anyAt (F := F) c (b.slice (threeR 2) (fun _ => rfl))) :=
  (any_cut c b threeR (fun _ _ => rfl) three_disj three_cov).trans (Entails.of_eq (bigSep_fin3 _))
theorem planes3_join (b : Memref sig .tc .vmem S3x256x1024 .bf16) : iprop(anyAt (F := F) c (b.slice (threeR 0) (fun _ => rfl))
    ∗ anyAt (F := F) c (b.slice (threeR 1) (fun _ => rfl)) ∗ anyAt (F := F) c (b.slice (threeR 2) (fun _ => rfl))) ⊢ anyAt (F := F) c b :=
  (Entails.of_eq (bigSep_fin3 _).symm).trans (any_join c b threeR (fun _ _ => rfl) three_disj three_cov)
theorem stage_cut : anyAt (F := F) c stM ⊢ iprop(anyAt (F := F) c (stP 0) ∗ anyAt (F := F) c (stP 1) ∗ anyAt (F := F) c (stP 2) ∗ anyAt (F := F) c (stP 3)) :=
  (any_cut c stM fourR (fun _ _ => rfl) four_disj four_cov).trans (Entails.of_eq (bigSep_fin4 _))
theorem stage_join : iprop(anyAt (F := F) c (stP 0) ∗ anyAt (F := F) c (stP 1) ∗ anyAt (F := F) c (stP 2) ∗ anyAt (F := F) c (stP 3)) ⊢ anyAt (F := F) c stM :=
  (Entails.of_eq (bigSep_fin4 _).symm).trans (any_join c stM fourR (fun _ _ => rfl) four_disj four_cov)
theorem out_cut : anyAt (F := F) c outM ⊢ iprop(anyAt (F := F) c (outP c 0) ∗ anyAt (F := F) c (outP c 1) ∗ anyAt (F := F) c (outP c 2) ∗ anyAt (F := F) c (outP c 3)) :=
  (any_cut c outM (fun k => (rowB c k).rect) (fun _ _ => rfl) (row_disj c) (row_cov c)).trans (Entails.of_eq (bigSep_fin4 _))

theorem wide_zero_emb (hb : ∀ a, (![0, 0] : Fin 2 → ℕ) a + S1024x1024.size a ≤ S1024x1024.size a) (i : S1024x1024.Idx) :
    (Rect.unit (s := S1024x1024) ![0, 0] S1024x1024.size hb).emb i = i := by
  refine funext fun a => Fin.ext ?_
  show (![0, 0] : Fin 2 → ℕ) a + 1 * (i a).val = (i a).val
  rw [hz]
  show 0 + 1 * (i a).val = (i a).val
  rw [Nat.zero_add, Nat.one_mul]

set_option maxRecDepth 65536 in
/-- A matrix loaded whole. -/
theorem load_wide {b : Memref sig .tc .vmem S1024x1024 .f32} {X : Vec F S1024x1024 .f32} {hl : b.view.LoadsAt _} (k : Vec F S1024x1024 .f32 → P F PUnit) :
    (isAt c b X : sProp 𝕄) ⊢ iprop((isAt c b X -∗ runs c (k X) Q)
      -∗ runs c (.op (.load b (Rect.unit (s := S1024x1024) ![0, 0] S1024x1024.size inb_S1024x1024_S1024x1024_0_0).toLoadRect hl) k) Q) := by
  have e : (fun j => X ((Rect.unit (s := S1024x1024) ![0, 0] S1024x1024.size inb_S1024x1024_S1024x1024_0_0).emb j)) = X :=
    funext fun i => congrArg X (wide_zero_emb _ i)
  have h := wp_load_owns (Name := ℕ) (U := UU) (Lvl := ℕ) (Ix := Unit) (defs := (defs₀ : Defs nD τ sig (Elt F) _)) 𝒱₀ (c : Thread nD τ) none (hl := hl) (k := k) (q := fullShare) (X := X) (Q := Q)
  rw [e] at h
  exact h

set_option maxRecDepth 65536 in
/-- The weights loaded. -/
theorem weights_wp : iprop(isAt c wqM (wqV m c) ∗ isAt c woM (woV m c))
    ⊢ iprop((iprop(isAt c wqM (wqV m c) ∗ isAt c woM (woV m c)) -∗ runs c (step0 c (wqS m c) (woS m c)) Q) -∗ runs c (rest c) Q) := by
  unfold rest
  iintro ⟨Hq, Ho⟩ Hk
  iapply (load_wide c (b := wqM) (X := wqV m c) _) $$ Hq
  iintro Hq
  iapply (load_wide c (b := woM) (X := woV m c) _) $$ Ho
  iintro Ho
  iapply Hk
  isplitl [Hq] <;> iassumption

theorem due_lt0 : ∀ (c : Dev nD) (n : Fin 9), ∀ x ∈ (due c).drop n.val, 0 < lvK x.2 := by decide +kernel
theorem due_lt10 : ∀ (c : Dev nD), ∀ x ∈ (due c).drop 3, lvK (some (1, 0)) < lvK x.2 := by decide +kernel
theorem due_lt11 : ∀ (c : Dev nD), ∀ x ∈ (due c).drop 4, lvK (some (1, 1)) < lvK x.2 := by decide +kernel
theorem due_lt12 : ∀ (c : Dev nD), ∀ x ∈ (due c).drop 5, lvK (some (1, 2)) < lvK x.2 := by decide +kernel

/-- One of the waits at the end. -/
theorem drain1_wp (a j : Fin 4) (k : Fin 3) {mm : Memref sig .tc .vmem S3x256x1024 .bf16} {hm : mm.IsWhole} (hN : (fourS stM j).view.dmaCredit = NT) (K' : P F PUnit) :
    iprop(records m K ∗ levAts L lv ∗ cred (tallyAt (kcell (c, some (a, k))) () NT) ∗ atPos ER (kcell (c, some (a, k))) 0 ∅ 0 ∗ Owes c [])
      ⊢ iprop((iprop(payK m c (some (a, k)) false ∗ semVal (kcell (c, some (a, k))) 0 ∗ Owes c []) -∗ runs c K' Q)
        -∗ runs c (waitSend j mm hm k (arr a) K') Q) := by
  unfold waitSend
  iintro ⟨#HR, #Hlev, Hc, Hat, HO⟩ Hk
  iapply (wait_cell m K c (x := (a, k)) hN [] (fun y hy => absurd hy List.not_mem_nil) _) $$ [Hc Hat HO]
  · isplitr; · iexact HR
    isplitr; · iexact Hlev
    isplitl [Hc]; · iexact Hc
    isplitl [HO] <;> iassumption
  iexact Hk

/-- The waits at the end: everything sent has left, its sources are the device's again. -/
theorem drain_wp :
    iprop(records m K ∗ levAts L lv ∗ Owes c []
        ∗ (bigSep Finset.univ fun k : Fin 3 => iprop(cred (tallyAt (kcell (c, some (0, k))) () NT) ∗ atPos ER (kcell (c, some (0, k))) 0 ∅ 0))
        ∗ (bigSep Finset.univ fun k : Fin 3 => iprop(cred (tallyAt (kcell (c, some (2, k))) () NT) ∗ atPos ER (kcell (c, some (2, k))) 0 ∅ 0)))
      ⊢ iprop((iprop(anyAt c stM ∗ (semVal (kcell (c, some (0, 0))) 0 ∗ semVal (kcell (c, some (0, 1))) 0 ∗ semVal (kcell (c, some (0, 2))) 0)
          ∗ (semVal (kcell (c, some (2, 0))) 0 ∗ semVal (kcell (c, some (2, 1))) 0 ∗ semVal (kcell (c, some (2, 2))) 0) ∗ Owes c []) -∗ Q ⟨⟩)
        -∗ runs c drain Q) := by
  unfold drain
  rw [bigSep_fin3, bigSep_fin3]
  iintro ⟨#HR, #Hlev, HO, ⟨⟨Hc0, Ha0⟩, ⟨Hc1, Ha1⟩, Hc2, Ha2⟩, ⟨Hd0, Hb0⟩, ⟨Hd1, Hb1⟩, Hd2, Hb2⟩ Hk
  iapply (drain1_wp m K c 0 0 0 rfl _) $$ [Hc0 Ha0 HO]
  · isplitr; · iexact HR
    isplitr; · iexact Hlev
    isplitl [Hc0]; · iexact Hc0
    isplitl [Ha0] <;> iassumption
  iintro ⟨Hp0, Hz0, HO⟩
  iapply (drain1_wp m K c 0 1 1 rfl _) $$ [Hc1 Ha1 HO]
  · isplitr; · iexact HR
    isplitr; · iexact Hlev
    isplitl [Hc1]; · iexact Hc1
    isplitl [Ha1] <;> iassumption
  iintro ⟨Hp1, Hz1, HO⟩
  iapply (drain1_wp m K c 0 2 2 rfl _) $$ [Hc2 Ha2 HO]
  · isplitr; · iexact HR
    isplitr; · iexact Hlev
    isplitl [Hc2]; · iexact Hc2
    isplitl [Ha2] <;> iassumption
  iintro ⟨Hp2, Hz2, HO⟩
  iapply (drain1_wp m K c 2 3 0 rfl _) $$ [Hd0 Hb0 HO]
  · isplitr; · iexact HR
    isplitr; · iexact Hlev
    isplitl [Hd0]; · iexact Hd0
    isplitl [Hb0] <;> iassumption
  iintro ⟨Hq0, Hw0, HO⟩
  iapply (drain1_wp m K c 2 3 1 rfl _) $$ [Hd1 Hb1 HO]
  · isplitr; · iexact HR
    isplitr; · iexact Hlev
    isplitl [Hd1]; · iexact Hd1
    isplitl [Hb1] <;> iassumption
  iintro ⟨Hq1, Hw1, HO⟩
  iapply (drain1_wp m K c 2 3 2 rfl _) $$ [Hd2 Hb2 HO]
  · isplitr; · iexact HR
    isplitr; · iexact Hlev
    isplitl [Hd2]; · iexact Hd2
    isplitl [Hb2] <;> iassumption
  iintro ⟨Hq2, Hw2, HO⟩
  rw [runs, wp_ret]
  imodintro
  iapply Hk
  isplitl [Hp0 Hp1 Hp2 Hq0 Hq1 Hq2]
  · iapply (stage_join c)
    isplitl [Hp0]; · iapply (show payK m c (some (0, 0)) false ⊢ anyAt c (stP 0) from any_intro c (stP 0) (stageN m 0 c)); iexact Hp0
    isplitl [Hp1]; · iapply (show payK m c (some (0, 1)) false ⊢ anyAt c (stP 1) from any_intro c (stP 1) (stageN m 1 c)); iexact Hp1
    isplitl [Hp2]; · iapply (show payK m c (some (0, 2)) false ⊢ anyAt c (stP 2) from any_intro c (stP 2) (stageN m 2 c)); iexact Hp2
    iexists (stageN m 3 c)
    iapply (is_thirds c (stP 3) (stageN m 3 c)).2
    iapply (show iprop(payK m c (some (2, 0)) false ∗ payK m c (some (2, 1)) false ∗ payK m c (some (2, 2)) false) ⊢ _ from .rfl)
    isplitl [Hq0]; · iexact Hq0
    isplitl [Hq1] <;> iassumption
  isplitl [Hz0 Hz1 Hz2]
  · isplitl [Hz0]; · iexact Hz0
    isplitl [Hz1] <;> iassumption
  isplitl [Hw0 Hw1 Hw2]
  · isplitl [Hw0]; · iexact Hw0
    isplitl [Hw1] <;> iassumption
  iexact HO

end Cert.KernelIdeal.Attn
-- ==== Proof.Body.lean ====
module
public import proofs.«01_k».proof.Proof.BodyKit
public import Idealize.ShloMosaic.Lib.Tactic

/-! The whole body, step by step: from what a device starts with to its result. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Own

variable {F : FTy → Type} [FloatOps F] [Named F]

local notation "𝕄" => MT nD τ sig Unit (Elt F) ℕ UU ℕ

variable (m : (ℓ : Loc nD τ sig) → Buf (Elt F) ℓ) (K : Dev nD × Ck → ℕ) (c : Dev nD) {Q : PUnit → sProp (MT nD τ sig Unit (Elt F) ℕ UU ℕ)}

/-- No copies are issued for a step that does not come. -/
theorem no_copies (K : P F PUnit) : (emp : sProp 𝕄) ⊢ iprop((emp -∗ runs c K Q) -∗ runs c K Q) := by
  iintro - H
  iapply H
  iempintro

theorem comm_back : iprop(isAt c (commP 0) (stageN m 0 (prv c)) ∗ isAt c (commP 1) (stageN m 1 (prv c)) ∗ isAt c (commP 2) (stageN m 2 (prv c)))
    ⊢ anyAt (F := F) c commM :=
  (BI.sep_mono (any_intro c (commP 0) _) (BI.sep_mono (any_intro c (commP 1) _) (any_intro c (commP 2) _))).trans (planes3_join c commM)

theorem out_back : iprop(isAt c (outP c 0) (outChunk m c 0) ∗ isAt c (outP c 1) (outChunk m c 1) ∗ isAt c (outP c 2) (outChunk m c 2) ∗ isAt c (outP c 3) (outChunk m c 3))
    ⊢ isAt c outM (outAt m c) :=
  (Entails.of_eq (bigSep_fin4 (fun k : Fin 4 => isAt c (outP c k) (outChunk m c k))).symm).trans (is_out m c)

theorem any_of_is {sp : Space} {sh : Shape} {e : EltTy} {b : Memref sig .tc sp sh e} {X : sh.Idx → Elt F e} : isAt c b X ⊢ anyAt (F := F) c b := any_intro c b X

/-- The hand-over of a plane at the ring's first transfer. -/
theorem pass_first : iprop(isAt (nxt c) (commP 0) (stageN m 0 c) ∗ anyAt (prv c) (bcP 2)) ⊢ payK m (nxt c) (some (1, 0)) false := by
  show _ ⊢ iprop(isAt (nxt c) (commP 0) (stageN m 0 (prv (nxt c))) ∗ anyAt (opp (nxt c)) (bcP 2))
  rw [prv_nxt, opp_nxt]

theorem pass_second : iprop(isAt (nxt c) (commP 1) (stageN m 1 c) ∗ emp) ⊢ payK m (nxt c) (some (1, 1)) false := by
  show _ ⊢ iprop(isAt (nxt c) (commP 1) (stageN m 1 (prv (nxt c))) ∗ emp)
  rw [prv_nxt]

theorem pass_third : iprop(isAt (nxt c) (commP 2) (stageN m 2 c) ∗ emp) ⊢ payK m (nxt c) (some (1, 2)) false := by
  show _ ⊢ iprop(isAt (nxt c) (commP 2) (stageN m 2 (prv (nxt c))) ∗ emp)
  rw [prv_nxt]

theorem give_right : iprop(isAt (nxt c) (bcP 0) (stageN m 3 c) ∗ emp) ⊢ payK m (nxt c) (some (3, 0)) false := by
  show _ ⊢ iprop(isAt (nxt c) (bcP 0) (stageN m 3 (prv (nxt c))) ∗ emp)
  rw [prv_nxt]

theorem give_left : iprop(isAt (prv c) (bcP 1) (stageN m 3 c) ∗ emp) ⊢ payK m (prv c) (some (3, 1)) false := by
  show _ ⊢ iprop(isAt (prv c) (bcP 1) (stageN m 3 (nxt (prv c))) ∗ emp)
  rw [nxt_prv]

theorem give_across : iprop(isAt (opp c) (bcP 2) (stageN m 3 c) ∗ emp) ⊢ payK m (opp c) (some (3, 2)) false := by
  show _ ⊢ iprop(isAt (opp c) (bcP 2) (stageN m 3 (opp (opp c))) ∗ emp)
  rw [opp_opp]

set_option maxHeartbeats 4000000 in
/-- The whole body runs. -/
theorem body_wp : iprop(records m K ∗ levAts L lv ∗ bodyPre m c) ⊢ iprop((bodyPost m c -∗ Q ⟨⟩) -∗ runs c prog Q) := by
  unfold bodyPre bodyPost prog
  rw [bigSep_ck, bigSep_fin4]
  iintro ⟨#HR, #Hlev, ⟨Pn, ⟨P00, P01, P02⟩, ⟨P10, P11, P12⟩, ⟨P20, P21, P22⟩, P30, P31, P32⟩, Ht, Hc, ⟨Z0, Z1⟩, ⟨S0, S1, S2, S3⟩,
    ⟨Hkb, Hvb, Hcomm, Hq, Ha, Hst, Hbc⟩, HO, Hx, Hwq, Hwo, Hout⟩ Hk
  ihave Ht := (payToks_elim c) $$ Ht
  rw [bigSep_univ_prod, bigSep_fin4]
  simp only [bigSep_fin3]
  icases Ht with ⟨⟨Tn, Tp⟩, ⟨T00, T01, T02⟩, ⟨T10, T11, T12⟩, ⟨T20, T21, T22⟩, T30, T31, T32⟩
  ihave Hc := (creds_elim c) $$ Hc
  icases Hc with ⟨Cn, ⟨C10, C11, C12⟩, C30, C31, C32⟩
  ihave Hf := (slots_cut c) $$ [Hkb Hvb]
  · isplitl [Hkb] <;> iassumption
  icases Hf with ⟨F0, F1⟩
  ihave Hcomm := (planes3_cut c commM) $$ Hcomm
  icases Hcomm with ⟨M0, M1, M2⟩
  ihave Hbc := (planes3_cut c bcM) $$ Hbc
  icases Hbc with ⟨B0, B1, B2⟩
  ihave Hst := (stage_cut c) $$ Hst
  icases Hst with ⟨G0, G1, G2, G3⟩
  ihave Hout := (out_cut c) $$ Hout
  icases Hout with ⟨O0, O1, O2, O3⟩
  unfold runs
  rw [wp_deviceId]

  ihave Hsc := (show iprop(isAt c xM (xV m c) ∗ anyAt c qM ∗ anyAt c aM) ⊢ scratch m c from .rfl) $$ [Hx Hq Ha]
  · isplitl [Hx]; · iexact Hx
    isplitl [Hq] <;> iassumption
  iapply (issue_wp m c 0 0 _) $$ [F0 S0 Z0]
  · isplitl [F0]; · iexact F0
    isplitl [S0]; · iexact S0
    iexact Z0
  iintro HB
  iapply (handshake_wp m K c _) $$ [HO Cn Pn Tp Tn M0 M1 M2 B0 B1 B2]
  · isplitr; · iexact HR
    isplitr; · iexact Hlev
    isplitl [HO]; · iexact HO
    isplitl [Cn]; · iexact Cn
    isplitl [Pn]; · iexact Pn
    isplitl [Tp]; · iexact Tp
    isplitl [Tn]; · iexact Tn
    isplitl [M0 M1 M2 B0]
    · isplitl [M0]; · iexact M0
      isplitl [M1]; · iexact M1
      isplitl [M2]; · iexact M2
      iexact B0
    isplitl [B1]; · iexact B1
    iexact B2
  iintro ⟨Y1, Y2, Zn, HO⟩
  icases (show payK m c none false ⊢ iprop(anyAt (prv c) (bcP 1) ∗ anyAt (prv c) (bcP 2)) from .rfl) $$ Y1 with ⟨NB1, NB2⟩
  icases (show payK m c none true ⊢ iprop(anyAt (nxt c) (commP 0) ∗ anyAt (nxt c) (commP 1) ∗ anyAt (nxt c) (commP 2) ∗ anyAt (nxt c) (bcP 0)) from .rfl) $$ Y2 with ⟨N0, N1, N2, NB0⟩
  iapply (weights_wp m c) $$ [Hwq Hwo]
  · isplitl [Hwq]; · iexact Hwq
    iexact Hwo
  iintro ⟨Hwq, Hwo⟩
  rw [step0_eq]
  iapply (attn_wp m c 0 0 ((due c).drop 2) (due_lt0 c 2) (fun K => issue_wp m c 1 1 K) _) $$ [Hsc HB HO F1 S1 Z1]
  · isplitr; · iexact Hlev
    isplitl [Hsc]; · iexact Hsc
    isplitl [HB]; · iexact HB
    isplitl [HO]; · iexact HO
    isplitl [F1]; · iexact F1
    isplitl [S1]; · iexact S1
    iexact Z1
  iintro ⟨Hsc, F0, S0, Z0, HO, HB⟩
  iapply (keep_wp c 0 0 _ _) $$ [O0 G0]
  · isplitl [O0]; · iexact O0
    iexact G0
  iintro ⟨O0, G0⟩
  iapply (send_wp m K c (dev3_eq c) ((due c).drop 3) rfl .rfl (pass_first m c) _) $$ [G0 N0 NB2 HO T00 T10]
  · isplitr; · iexact HR
    isplitl [G0]; · iexact G0
    isplitl [N0 NB2]
    · isplitl [N0]; · iexact N0
      iexact NB2
    isplitl [HO]; · iexact HO
    isplitl [T00]; · iexact T00
    iexact T10
  iintro ⟨C00, HO⟩
  rw [step1_eq]
  iapply (attn_wp m c 1 1 ((due c).drop 3) (due_lt0 c 3) (fun K => issue_wp m c 0 2 K) _) $$ [Hsc HB HO F0 S2 Z0]
  · isplitr; · iexact Hlev
    isplitl [Hsc]; · iexact Hsc
    isplitl [HB]; · iexact HB
    isplitl [HO]; · iexact HO
    isplitl [F0]; · iexact F0
    isplitl [S2]; · iexact S2
    iexact Z0
  iintro ⟨Hsc, F1, S1, Z1, HO, HB⟩
  iapply (ring_wp m K c (stageN m 0 (prv c)) rfl ((due c).drop 3) (due_lt10 c) .rfl (woS m c) (attnAt m c 1) _) $$ [C10 HO P10 O3 G1]
  · isplitr; · iexact HR
    isplitr; · iexact Hlev
    isplitl [C10]; · iexact C10
    isplitl [HO]; · iexact HO
    isplitl [P10]; · iexact P10
    isplitl [O3]; · iexact O3
    iexact G1
  iintro ⟨M0, NB2, Z10, HO, O3, G1⟩
  iapply (send_wp m K c (dev4_eq c) ((due c).drop 4) rfl .rfl (pass_second m c) _) $$ [G1 N1 HO T01 T11]
  · isplitr; · iexact HR
    isplitl [G1]; · iexact G1
    isplitl [N1]
    · isplitl [N1]; · iexact N1
      iempintro
    isplitl [HO]; · iexact HO
    isplitl [T01]; · iexact T01
    iexact T11
  iintro ⟨C01, HO⟩
  rw [step2_eq]
  iapply (attn_wp m c 0 2 ((due c).drop 4) (due_lt0 c 4) (fun K => issue_wp m c 1 3 K) _) $$ [Hsc HB HO F1 S3 Z1]
  · isplitr; · iexact Hlev
    isplitl [Hsc]; · iexact Hsc
    isplitl [HB]; · iexact HB
    isplitl [HO]; · iexact HO
    isplitl [F1]; · iexact F1
    isplitl [S3]; · iexact S3
    iexact Z1
  iintro ⟨Hsc, F0, S2, Z0, HO, HB⟩
  iapply (ring_wp m K c (stageN m 1 (prv c)) rfl ((due c).drop 4) (due_lt11 c) .rfl (woS m c) (attnAt m c 2) _) $$ [C11 HO P11 O2 G2]
  · isplitr; · iexact HR
    isplitr; · iexact Hlev
    isplitl [C11]; · iexact C11
    isplitl [HO]; · iexact HO
    isplitl [P11]; · iexact P11
    isplitl [O2]; · iexact O2
    iexact G2
  iintro ⟨M1, -, Z11, HO, O2, G2⟩
  iapply (send_wp m K c (dev5_eq c) ((due c).drop 5) rfl .rfl (pass_third m c) _) $$ [G2 N2 HO T02 T12]
  · isplitr; · iexact HR
    isplitl [G2]; · iexact G2
    isplitl [N2]
    · isplitl [N2]; · iexact N2
      iempintro
    isplitl [HO]; · iexact HO
    isplitl [T02]; · iexact T02
    iexact T12
  iintro ⟨C02, HO⟩
  rw [step3_eq]
  iapply (attn_wp m c 1 3 ((due c).drop 5) (due_lt0 c 5) (fun K => no_copies c K) _) $$ [Hsc HB HO]
  · isplitr; · iexact Hlev
    isplitl [Hsc]; · iexact Hsc
    isplitl [HB]; · iexact HB
    isplitl [HO]; · iexact HO
    iempintro
  iintro ⟨Hsc, F1, S3, Z1, HO, -⟩
  iapply (ring_wp m K c (stageN m 2 (prv c)) rfl ((due c).drop 5) (due_lt12 c) .rfl (woS m c) (attnAt m c 3) _) $$ [C12 HO P12 O1 G3]
  · isplitr; · iexact HR
    isplitr; · iexact Hlev
    isplitl [C12]; · iexact C12
    isplitl [HO]; · iexact HO
    isplitl [P12]; · iexact P12
    isplitl [O1]; · iexact O1
    iexact G3
  iintro ⟨M2, -, Z12, HO, O1, G3⟩
  ihave G3 := (show isAt c (stP 3) (k0_pay35 (k0_pay34 (woS m c) (attnAt m c 3) (stageN m 2 (prv c)))) ⊢ _ from
    (is_thirds c (stP 3) (stageN m 3 c)).1) $$ G3
  icases G3 with ⟨G30, G31, G32⟩
  unfold broadcastOwn
  iapply (send_wp m K c (a := 2) (a' := 3) (j := 3) (mm := bcM) (hm := hbc) (k := 0) (dev6_eq c) (q := third 0) (X := stageN m 3 c) (R := iprop(emp)) ((due c).drop 6) rfl .rfl (give_right m c) _) $$ [G30 NB0 HO T20 T30]
  · isplitr; · iexact HR
    isplitl [G30]; · iexact G30
    isplitl [NB0]
    · isplitl [NB0]; · iexact NB0
      iempintro
    isplitl [HO]; · iexact HO
    isplitl [T20]; · iexact T20
    iexact T30
  iintro ⟨C20, HO⟩
  iapply (send_wp m K c (a := 2) (a' := 3) (j := 3) (mm := bcM) (hm := hbc) (k := 1) (dev7_eq c) (q := third 1) (X := stageN m 3 c) (R := iprop(emp)) ((due c).drop 7) rfl .rfl (give_left m c) _) $$ [G31 NB1 HO T21 T31]
  · isplitr; · iexact HR
    isplitl [G31]; · iexact G31
    isplitl [NB1]
    · isplitl [NB1]; · iexact NB1
      iempintro
    isplitl [HO]; · iexact HO
    isplitl [T21]; · iexact T21
    iexact T31
  iintro ⟨C21, HO⟩
  iapply (send_wp m K c (a := 2) (a' := 3) (j := 3) (mm := bcM) (hm := hbc) (k := 2) (dev8_eq c) (q := third 2) (X := stageN m 3 c) (R := iprop(emp)) ((due c).drop 8) rfl .rfl (give_across m c) _) $$ [G32 NB2 HO T22 T32]
  · isplitr; · iexact HR
    isplitl [G32]; · iexact G32
    isplitl [NB2]
    · isplitl [NB2]; · iexact NB2
      iempintro
    isplitl [HO]; · iexact HO
    isplitl [T22]; · iexact T22
    iexact T32
  iintro ⟨C22, HO⟩
  iapply (take_wp m K c (kk := 0) (k := 0) (stageN m 3 (prv c)) rfl .rfl _) $$ [C30 HO P30 O0]
  · isplitr; · iexact HR
    isplitr; · iexact Hlev
    isplitl [C30]; · iexact C30
    isplitl [HO]; · iexact HO
    isplitl [P30]; · iexact P30
    iapply (any_of_is c); iexact O0
  iintro ⟨B0, Z30, HO, O0⟩
  iapply (take_wp m K c (kk := 2) (k := 1) (stageN m 3 (nxt c)) rfl .rfl _) $$ [C31 HO P31 O2]
  · isplitr; · iexact HR
    isplitr; · iexact Hlev
    isplitl [C31]; · iexact C31
    isplitl [HO]; · iexact HO
    isplitl [P31]; · iexact P31
    iapply (any_of_is c); iexact O2
  iintro ⟨B1, Z31, HO, O2⟩
  iapply (take_wp m K c (kk := 3) (k := 2) (stageN m 3 (opp c)) rfl .rfl _) $$ [C32 HO P32 O3]
  · isplitr; · iexact HR
    isplitr; · iexact Hlev
    isplitl [C32]; · iexact C32
    isplitl [HO]; · iexact HO
    isplitl [P32]; · iexact P32
    iapply (any_of_is c); iexact O3
  iintro ⟨B2, Z32, HO, O3⟩
  iapply (drain_wp m K c) $$ [HO C00 P00 C01 P01 C02 P02 C20 P20 C21 P21 C22 P22]
  · rw [bigSep_fin3, bigSep_fin3]
    isplitr; · iexact HR
    isplitr; · iexact Hlev
    isplitl [HO]; · iexact HO
    isplitl [C00 P00 C01 P01 C02 P02]
    · isplitl [C00 P00]
      · isplitl [C00]; · iexact C00
        iexact P00
      isplitl [C01 P01]
      · isplitl [C01]; · iexact C01
        iexact P01
      isplitl [C02]; · iexact C02
      iexact P02
    isplitl [C20 P20]
    · isplitl [C20]; · iexact C20
      iexact P20
    isplitl [C21 P21]
    · isplitl [C21]; · iexact C21
      iexact P21
    isplitl [C22]; · iexact C22
    iexact P22
  iintro ⟨Hst, ⟨Z00, Z01, Z02⟩, ⟨Z20, Z21, Z22⟩, HO⟩
  ihave Hf := (slots_join c) $$ [F0 F1]
  · isplitl [F0] <;> iassumption
  icases Hf with ⟨Hkb, Hvb⟩
  icases (show scratch m c ⊢ iprop(isAt c xM (xV m c) ∗ anyAt c qM ∗ anyAt c aM) from .rfl) $$ Hsc with ⟨Hx, Hq, Ha⟩
  iapply Hk
  rw [bigSep_ck]
  isplitl [Zn Z00 Z01 Z02 Z10 Z11 Z12 Z20 Z21 Z22 Z30 Z31 Z32]
  · isplitl [Zn]; · iexact Zn
    isplitl [Z00 Z01 Z02]
    · isplitl [Z00]; · iexact Z00
      isplitl [Z01]; · iexact Z01
      iexact Z02
    isplitl [Z10 Z11 Z12]
    · isplitl [Z10]; · iexact Z10
      isplitl [Z11]; · iexact Z11
      iexact Z12
    isplitl [Z20 Z21 Z22]
    · isplitl [Z20]; · iexact Z20
      isplitl [Z21]; · iexact Z21
      iexact Z22
    isplitl [Z30]; · iexact Z30
    isplitl [Z31]; · iexact Z31
    iexact Z32
  isplitl [Z0 Z1]
  · isplitl [Z0]; · iexact Z0
    iexact Z1
  isplitl [S0 S1 S2 S3]
  · isplitl [S0]; · iexact S0
    isplitl [S1]; · iexact S1
    isplitl [S2]; · iexact S2
    iexact S3
  isplitl [Hkb Hvb M0 M1 M2 Hq Ha Hst B0 B1 B2]
  · isplitl [Hkb]; · iexact Hkb
    isplitl [Hvb]; · iexact Hvb
    isplitl [M0 M1 M2]
    · iapply (comm_back m c)
      isplitl [M0]; · iexact M0
      isplitl [M1]; · iexact M1
      iexact M2
    isplitl [Hq]; · iexact Hq
    isplitl [Ha]; · iexact Ha
    isplitl [Hst]; · iexact Hst
    iapply (planes3_join c bcM)
    isplitl [B0]; · iexact B0
    isplitl [B1]; · iexact B1
    iexact B2
  isplitl [HO]; · iexact HO
  isplitl [Hx]; · iexact Hx
  isplitl [Hwq]; · iexact Hwq
  isplitl [Hwo]; · iexact Hwo
  iapply (out_back m c)
  isplitl [O0]; · iexact O0
  isplitl [O1]; · iexact O1
  isplitl [O2]; · iexact O2
  iexact O3

end Cert.KernelIdeal.Attn
-- ==== Proof.Run.lean ====
module
public import proofs.«01_k».proof.Proof.Body
public import Idealize.ShloMosaic.Lib.Pipeline.Launch
public import Idealize.ShloMosaic.Lib.Pipeline.Kit
public import Idealize.ShloMosaic.Lib.Quiescent

/-! The launch: what the four devices start from, dealt among them, and the run of the whole program. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Own

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The keys and values, cut into the heads the copies read -/

/-- A buffer cut into disjoint parts and what is left. -/
theorem pts_cut {ℓ : Loc nD τ sig} {T : Type} [Fintype T] [DecidableEq T] (S : T → Finset (Idx ℓ)) (hd : ∀ t t', t ≠ t' → Disjoint (S t) (S t'))
    (f : Buf (Elt F) ℓ) : (ℓ ↦{fullShare} f : sProp 𝕄) ⊣⊢ iprop((bigSep Finset.univ fun t => ℓ ↦[S t]{fullShare} f)
      ∗ ℓ ↦[Finset.univ \ Finset.univ.biUnion S]{fullShare} f) := by
  rw [← pointsTo_biUnion Finset.univ S fun t _ t' _ => hd t t']
  exact pointsTo_split_subset (Finset.subset_univ _)

theorem slice_disj {sp : Space} {sh sh' : Shape} {e : EltTy} (b : Memref sig .tc sp sh e) (r r' : Rect sh) (hr : ∀ a, r.stride a = 1) (hr' : ∀ a, r'.stride a = 1)
    (h : r.shape.Squeezes sh') (h' : r'.shape.Squeezes sh') (hd : Disjoint r.set r'.set) :
    Disjoint ((b.slice r hr).squeeze sh' h).view.set ((b.slice r' hr').squeeze sh' h').view.set := by
  have e1 : ((b.slice r hr).squeeze sh' h).view.set = r.set.map b.view.emb := (View.set_reshape _ _).trans (View.set_slice _ _)
  have e2 : ((b.slice r' hr').squeeze sh' h').view.set = r'.set.map b.view.emb := (View.set_reshape _ _).trans (View.set_slice _ _)
  rw [e1, e2]
  exact (Finset.disjoint_map _).mpr hd

theorem src_set (b : Memref sig .tc .hbm S4x1024x32x128 .f32) (c : Dev nD) (t t' : Fin 4 × Fin 8) (h : t ≠ t') :
    Disjoint (srcS b (offs c t.1) t.2).view.set (srcS b (offs c t'.1) t'.2).view.set :=
  slice_disj b _ _ _ _ _ _ (src_disj c t t' h)

/-- What is left of the keys and values. -/
def left (c : Dev nD) : sProp 𝕄 :=
  iprop((kM.view.loc (c : Thread nD τ) ↦[Finset.univ \ Finset.univ.biUnion fun t : Fin 4 × Fin 8 => (srcS kM (offs c t.1) t.2).view.set]{fullShare} kV m c)
    ∗ (vM.view.loc (c : Thread nD τ) ↦[Finset.univ \ Finset.univ.biUnion fun t : Fin 4 × Fin 8 => (srcS vM (offs c t.1) t.2).view.set]{fullShare} vV m c))

/-- The keys and values a device was given. -/
def args (c : Dev nD) : sProp 𝕄 :=
  iprop((((c : Thread nD τ).loc main_arg2) ↦{fullShare} kV m c) ∗ (((c : Thread nD τ).loc main_arg3) ↦{fullShare} vV m c))

theorem srcs_eq (c : Dev nD) : (bigSep Finset.univ fun j : Fin 4 => src m c j)
    = iprop((bigSep Finset.univ fun t : Fin 4 × Fin 8 => srcK m c t.1 t.2) ∗ bigSep Finset.univ fun t : Fin 4 × Fin 8 => srcV m c t.1 t.2) := by
  rw [bigSep_univ_prod, bigSep_univ_prod, ← bigSep_sep']
  refine bigSep_congr fun j _ => ?_
  unfold src
  exact bigSep_sep' _ _ _

theorem args_cut (c : Dev nD) : args m c ⊣⊢ iprop((bigSep Finset.univ fun j : Fin 4 => src m c j) ∗ left m c) := by
  have h1 := pts_cut (ℓ := kM.view.loc (c : Thread nD τ)) (fun t : Fin 4 × Fin 8 => (srcS kM (offs c t.1) t.2).view.set) (src_set kM c) (kV m c)
  have h2 := pts_cut (ℓ := vM.view.loc (c : Thread nD τ)) (fun t : Fin 4 × Fin 8 => (srcS vM (offs c t.1) t.2).view.set) (src_set vM c) (vV m c)
  rw [srcs_eq]
  unfold args left
  refine ⟨?_, ?_⟩
  · iintro ⟨H1, H2⟩
    ihave H1 := h1.1 $$ H1
    ihave H2 := h2.1 $$ H2
    icases H1 with ⟨A1, B1⟩
    icases H2 with ⟨A2, B2⟩
    isplitl [A1 A2]
    · isplitl [A1]; · iexact A1
      iexact A2
    · isplitl [B1] <;> iassumption
  · iintro ⟨⟨A1, A2⟩, B1, B2⟩
    isplitl [A1 B1]
    · iapply h1.2
      isplitl [A1]; · iexact A1
      iexact B1
    · iapply h2.2
      isplitl [A2]; · iexact A2
      iexact B2

/-! ## The body, as the pipeline calls it -/

/-- The buffers the kernel works in. -/
def work (c : Dev nD) : sProp 𝕄 :=
  iprop(anyAt (F := F) c kbM ∗ anyAt (F := F) c vbM ∗ anyAt (F := F) c commM ∗ anyAt (F := F) c qM ∗ anyAt (F := F) c aM ∗ anyAt (F := F) c stM ∗ anyAt (F := F) c bcM)

def start (c : Dev nD) : sProp 𝕄 :=
  iprop((∃ K, records m K ∗ (bigSep Finset.univ fun k : Ck => atPos ER (kcell (c, k)) 0 ∅ 0) ∗ payToks c ∗ (slotSems c 0 ∗ slotSems c 1))
    ∗ creds c ∗ levAts L lv ∗ args m c)

def Φ₀ (c : Dev nD) : sProp 𝕄 := iprop(start m c ∗ work (F := F) c)
def Φ₁ (c : Dev nD) : sProp 𝕄 :=
  iprop((bigSep Finset.univ fun k : Ck => semVal (kcell (c, k)) 0) ∗ (slotSems c 0 ∗ slotSems c 1) ∗ work (F := F) c ∗ args m c)

def dats (_ : Fin 1) (c : Dev nD) : Dat τ (Elt F) Unit ℕ UU ℕ cfg0 c where
  A w := m ((cfg0.win w).arr.view.loc (c : Thread nD τ))
  after w _ := match w with
    | ⟨0, _⟩ => xV m c
    | ⟨1, _⟩ => wqV m c
    | ⟨2, _⟩ => woV m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetched0 (t : Fin cfg0.N) : (cfg0.win (0 : Fin 4)).fetch t = true := by rw [fin_N0 t]; rfl
theorem fetched1 (t : Fin cfg0.N) : (cfg0.win (1 : Fin 4)).fetch t = true := by rw [fin_N0 t]; rfl
theorem fetched2 (t : Fin cfg0.N) : (cfg0.win (2 : Fin 4)).fetch t = true := by rw [fin_N0 t]; rfl
theorem before0 (c : Dev nD) (d) : (dats m 0 c).before (0 : Fin 4) t0_0 d = xV m c := by unfold Dat.before; rw [if_pos (fetched0 t0_0)]; rfl
theorem before1 (c : Dev nD) (d) : (dats m 0 c).before (1 : Fin 4) t0_0 d = wqV m c := by unfold Dat.before; rw [if_pos (fetched1 t0_0)]; rfl
theorem before2 (c : Dev nD) (d) : (dats m 0 c).before (2 : Fin 4) t0_0 d = woV m c := by unfold Dat.before; rw [if_pos (fetched2 t0_0)]; rfl

set_option maxRecDepth 4000 in
def obPre (c : Dev nD) : sProp 𝕄 :=
  iprop(Φ₀ m c ∗ (dats m 0 c).owesAt () t0_0.castSucc
    ∗ (∃ d, isAt c xM ((dats m 0 c).before (0 : Fin 4) t0_0 d)) ∗ (∃ d, isAt c wqM ((dats m 0 c).before (1 : Fin 4) t0_0 d))
    ∗ (∃ d, isAt c woM ((dats m 0 c).before (2 : Fin 4) t0_0 d)) ∗ (∃ d, isAt c outM ((dats m 0 c).before (3 : Fin 4) t0_0 d)))

def obPost (c : Dev nD) : sProp 𝕄 :=
  iprop(Φ₁ m c ∗ (dats m 0 c).owesAt () t0_0.succ ∗ isAt c xM (xV m c) ∗ isAt c wqM (wqV m c) ∗ isAt c woM (woV m c) ∗ isAt c outM (outAt m c))

theorem ob_runs (c : Dev nD) : obPre m c ⊢ runs c prog fun _ => obPost m c := by
  unfold obPre
  simp only [before0, before1, before2]
  unfold Φ₀ start
  iintro ⟨⟨⟨⟨%K, #HR, Hpos, Htok, Hz⟩, Hcr, #Hlev, Harg⟩, Hw⟩, Ho, ⟨%d0, Hx⟩, ⟨%d1, Hwq⟩, ⟨%d2, Hwo⟩, ⟨%d3, Hout⟩⟩
  ihave Harg := (args_cut m c).1 $$ Harg
  icases Harg with ⟨Hsrc, Hleft⟩
  unfold Dat.owesAt Pipeline.owesWithin
  icases Ho with ⟨%W, %hW, HO⟩
  rw [show (dats m 0 c).owed t0_0.castSucc = owe (due c) from rfl]
  iapply (body_wp m K c) $$ [Hpos Htok Hz Hcr Hw HO Hx Hwq Hwo Hout Hsrc]
  · isplitr; · iexact HR
    isplitr; · iexact Hlev
    unfold bodyPre work
    isplitl [Hpos]; · iexact Hpos
    isplitl [Htok]; · iexact Htok
    isplitl [Hcr]; · iexact Hcr
    isplitl [Hz]; · iexact Hz
    isplitl [Hsrc]; · iexact Hsrc
    isplitl [Hw]; · iexact Hw
    isplitl [HO]; · unfold Owes; iexists W; iexact HO
    isplitl [Hx]; · iexact Hx
    isplitl [Hwq]; · iexact Hwq
    isplitl [Hwo]; · iexact Hwo
    iexists _; iexact Hout
  unfold bodyPost obPost Φ₁ work Owes
  iintro ⟨Hcl, Hz, Hsrc, Hw, ⟨%W', HO⟩, Hx, Hwq, Hwo, Hout⟩
  isplitl [Hcl Hz Hsrc Hw Hleft]
  · isplitl [Hcl]; · iexact Hcl
    isplitl [Hz]; · iexact Hz
    isplitl [Hw]; · iexact Hw
    iapply (args_cut m c).2
    isplitl [Hsrc] <;> iassumption
  isplitl [HO]
  · unfold Dat.owesAt Pipeline.owesWithin
    iexists W'
    isplitr; · ipureintro; exact fun _ _ => Or.inl trivial
    iexact HO
  isplitl [Hx]; · iexact Hx
  isplitl [Hwq]; · iexact Hwq
  isplitl [Hwo] <;> iassumption

set_option maxRecDepth 65536 in
/-- The pipeline's obligation on the body. -/
theorem body_obligation (c : Dev nD) : BodyObligation (dats (F := F) m 0 c) (defs₀ (F := F)) 𝒱₀ () Set.univ := fun t => by
  rw [fin_N0 t, bigSep_W0, bigSep_W0]
  show obPre m c ⊢ wp frame (wpE (defs₀ (F := F)) 𝒱₀ c none) Set.univ (bodyAt0 t0_0) (fun _ => obPost m c)
  rw [body_eq]
  exact ob_runs m c

end Cert.KernelIdeal.Attn
-- ==== Proof.Main.lean ====
module
public import proofs.«01_k».proof.Proof.Run
public import Idealize.ShloMosaic.Lib.Pipeline.CollectiveSegs

/-! The launch: what the four devices start from, dealt among them, and the run of the whole program. -/

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Own

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The kernel's own semaphores -/

/-- The kernel's own semaphores: the slots' and the transfers'. -/
def osem : (Fin 2 × Fin 2) ⊕ (Fin 4 × Fin 3) → SemLoc sig
  | .inl x => .dma (slotSem x.1 x.2)
  | .inr x => csem (some x)

theorem ownSemFacts : Pipeline.OwnSemFacts cfg0.spec osem := by decide +kernel

theorem share_eq (c : Dev nD) (w : Fin cfg0.W) : (dats m 0 c).share w = fullShare := by unfold Dat.share; split <;> rfl

theorem bigSep_ck' (Φ : Ck → sProp 𝕄) : bigSep Finset.univ Φ = iprop(Φ none ∗ bigSep Finset.univ fun x : Fin 4 × Fin 3 => Φ (some x)) := by
  rw [bigSep_ck, bigSep_univ_prod, bigSep_fin4]
  simp only [bigSep_fin3]

theorem ownSems0_eq (c : Dev nD) : (Pipeline.ownSems0 (Ix := Unit) (Name := ℕ) (U := UU) (Lvl := ℕ) (Val := Elt F) (τ := τ) osem c : sProp 𝕄)
    = iprop((slotSems c 0 ∗ slotSems c 1) ∗ bigSep Finset.univ fun x : Fin 4 × Fin 3 => semVal (kcell (c, some x)) 0) := by
  unfold Pipeline.ownSems0
  rw [bigSep_univ_sum, bigSep_univ_prod, bigSep_fin2]
  simp only [bigSep_fin2]
  rfl

theorem unscopedSems0_eq (c : Dev nD) : (unscopedSems0 c : sProp 𝕄) = semVal (kcell (c, none)) 0 := by
  unfold unscopedSems0; rw [bigSep_eq_bigSepL_of_eq [csem none] (by decide) (by decide)]; rfl

/-! ## What the launch deals -/

def myCells : Finset (GSem nD τ sig) := Finset.univ.map ⟨kcell, kcell_inj⟩

abbrev tokOf (x : Dev nD × (Ck × Bool)) : GSem nD τ sig × ℕ × Bool := (kcell (x.1, x.2.1), 0, x.2.2)
theorem tokOf_inj : Function.Injective tokOf := by
  rintro ⟨c, k, b⟩ ⟨c', k', b'⟩ h
  have h1 := kcell_inj (congrArg Prod.fst h)
  have h2 : b = b' := congrArg (fun x : GSem nD τ sig × ℕ × Bool => x.2.2) h
  cases h1; cases h2; rfl
def myToks : Finset (GSem nD τ sig × ℕ × Bool) := Finset.univ.map ⟨tokOf, tokOf_inj⟩

def u₀ : UU := (initOf (Pipeline.cells cfgs cellOf_inj) (Pipeline.launchToks cfgs cellOf_inj), (initOf myCells myToks, 1))

/-- The duty tokens of device `c`'s own cells. -/
def toks (c : Dev nD) : sProp 𝕄 := bigSep Finset.univ fun x : Ck × Bool => dutyTok ER (kcell (c, x.1)) 0 x.2

def G (c : Dev nD) : sProp 𝕄 :=
  iprop((bigSep Finset.univ fun k : Ck => roundState ER (sched m) (kcell (c, k)) 0)
    ∗ ((bigSep Finset.univ fun k : Ck => atPos ER (kcell (c, k)) 0 ∅ 0) ∗ bigSep Finset.univ fun k : Ck => reached ER (kcell (c, k)) 0) ∗ toks c)

def G' (c : Dev nD) : sProp 𝕄 :=
  iprop(∃ K, records m K ∗ (bigSep Finset.univ fun k : Ck => atPos ER (kcell (c, k)) 0 ∅ 0) ∗ payToks c ∗ (slotSems c 0 ∗ slotSems c 1))

theorem fund : BI.own (ER (initOf myCells myToks)) ⊢ (|==> bigSep Finset.univ (G m) : sProp 𝕄) := by
  have hX (Φ : GSem nD τ sig → sProp 𝕄) : bigSep myCells Φ = bigSep Finset.univ fun c : Dev nD => bigSep Finset.univ fun k : Ck => Φ (kcell (c, k)) := by
    unfold myCells; rw [bigSep_map, bigSep_univ_prod]; rfl
  have hT : bigSep myToks (fun x => (dutyTok ER x.1 x.2.1 x.2.2 : sProp 𝕄)) = bigSep Finset.univ fun c : Dev nD => toks c := by
    unfold myToks; rw [bigSep_map, bigSep_univ_prod]; rfl
  iintro HX
  imod (Rounds.fund ER (sched m) myCells myToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (sched m) κ (kcell (c, k))))
          ∗ ((bigSep Finset.univ fun k : Ck => atPos ER (kcell (c, k)) 0 ∅ 0) ∗ (bigSep Finset.univ fun k : Ck => reached ER (kcell (c, k)) 0))
          ∗ toks c ∗ (slotSems c 0 ∗ slotSems c 1)) := by
  unfold G
  rw [ownSems0_eq, unscopedSems0_eq]
  iintro ⟨⟨Hz, Hos⟩, Hus, Hst, Hat, Htok⟩
  imod (show iprop((bigSep Finset.univ fun k : Ck => semVal (kcell (c, k)) 0) ∗ bigSep Finset.univ fun k : Ck => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hos Hus Hst] with Hinv
  · isplitl [Hos Hus]
    · rw [bigSep_ck']
      isplitl [Hus] <;> iassumption
    iexact Hst
  imodintro
  isplitl [Hinv]; · iexact Hinv
  isplitl [Hat]; · iexact Hat
  isplitl [Htok] <;> iassumption

/-- The duty tokens dealt to the devices that pay them. -/
theorem toks_around : (bigSep Finset.univ fun c : Dev nD => (toks c : sProp 𝕄)) ⊢ bigSep Finset.univ fun c : Dev nD => payToks c := by
  unfold toks payToks
  rw [bigSep_univ_comm, bigSep_univ_comm (fun (c : Dev nD) (x : Ck × Bool) => dutyTok ER (kcell (peer x c, x.1)) 0 x.2)]
  refine Entails.of_eq (bigSep_congr fun x _ => ?_)
  exact bigSep_univ_equiv (peer x) (fun c : Dev nD => (dutyTok ER (kcell (c, x.1)) 0 x.2 : sProp 𝕄))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Ck → ℕ) (c : Dev nD) :
    iprop(records m K ∗ iprop((bigSep Finset.univ fun k : Ck => atPos ER (kcell (c, k)) 0 ∅ 0) ∗ payToks c ∗ (slotSems c 0 ∗ slotSems c 1))) ⊢ G' m c := by
  unfold G'
  iintro ⟨HR, H⟩
  iexists K
  isplitl [HR] <;> iassumption

theorem regroup :
    (bigSep Finset.univ fun c : Dev nD => iprop((bigSep Finset.univ fun k : Ck => iprop(∃ κ : ℕ, cellInv ER (sched m) κ (kcell (c, k))))
          ∗ ((bigSep Finset.univ fun k : Ck => atPos ER (kcell (c, k)) 0 ∅ 0) ∗ (bigSep Finset.univ fun k : Ck => reached ER (kcell (c, k)) 0))
          ∗ toks c ∗ (slotSems c 0 ∗ slotSems c 1)) : sProp 𝕄)
      ⊢ bigSep Finset.univ (G' m) := by
  rw [bigSep_sep', bigSep_sep', bigSep_sep', bigSep_sep' (Finset.univ : Finset (Dev nD)) (fun c => toks c),
    ← bigSep_univ_prod (fun ck : Dev nD × Ck => iprop(∃ κ : ℕ, cellInv ER (sched m) κ (kcell ck))),
    ← bigSep_univ_prod (fun ck : Dev nD × Ck => (reached ER (kcell ck) 0 : sProp 𝕄))]
  iintro ⟨HI, ⟨Hat, #HR⟩, Htok, Hz⟩
  ihave HK := (BI.bigSep_exists_pi Finset.univ (fun (ck : Dev nD × Ck) (κ : ℕ) => (cellInv ER (sched m) κ (kcell ck) : sProp 𝕄))) $$ HI
  icases HK with ⟨%K, #HI⟩
  ihave Htk := (toks_around (F := F)) $$ Htok
  iapply (bigSep_with_persistent (R := records m K) fun c _ => deal m K c)
  isplitr
  · unfold records; isplitl; · iexact HI
    iexact HR
  rw [bigSep_sep' (Finset.univ : Finset (Dev nD)) (fun c => bigSep Finset.univ fun k : Ck => atPos ER (kcell (c, k)) 0 ∅ 0),
    bigSep_sep' (Finset.univ : Finset (Dev nD)) (fun c => payToks c)]
  isplitl [Hat]; · iexact Hat
  isplitl [Htk]; · iexact Htk
  iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem any_whole_elim (c : Dev nD) (b : Ref sig .tc) :
    (anyAt (F := F) c (Memref.whole b)) ⊢ (iprop(∃ f : Buf (Elt F) ((c : Thread nD τ).loc b), ((c : Thread nD τ).loc b) ↦{fullShare} f) : sProp 𝕄) := by
  iintro ⟨%X, H⟩
  unfold owns
  icases H with ⟨%f, -, H⟩
  iexists f
  rw [← View.set_whole b]; iexact H

theorem any_whole_intro (c : Dev nD) (b : Ref sig .tc) (f : Buf (Elt F) ((c : Thread nD τ).loc b)) :
    (((c : Thread nD τ).loc b) ↦{fullShare} f : sProp 𝕄) ⊢ anyAt (F := F) c (Memref.whole b) := by
  have h := owns_intro (Ix := Unit) (Name := ℕ) (U := UU) (Lvl := ℕ) (c : Thread nD τ) (Memref.whole b) fullShare f
  rw [show (Memref.whole b : Memref sig .tc _ _ _).view.set = Finset.univ from View.set_whole _] at h
  exact h.trans (any_intro c (Memref.whole b) _)

theorem any_whole (c : Dev nD) (b : Ref sig .tc) :
    (anyAt (F := F) c (Memref.whole b)) = (iprop(∃ f : Buf (Elt F) ((c : Thread nD τ).loc b), ((c : Thread nD τ).loc b) ↦{fullShare} f) : sProp 𝕄) :=
  BI.equiv_iff.mp ⟨any_whole_elim c b, exists_elim fun f => any_whole_intro c b f⟩

theorem scoped_eq (c : Dev nD) :
    (Pipeline.scopedRest (Ix := Unit) (Name := ℕ) (U := UU) (Lvl := ℕ) (Val := Elt F) spec0 c : sProp 𝕄) = work c := by
  rw [scopedRest0_eq]
  unfold work
  rw [any_whole, any_whole, any_whole, any_whole, any_whole, any_whole, any_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  rw [show (Pipeline.unscopedRest (Ix := Unit) (Name := ℕ) (U := UU) (Lvl := ℕ) cfg0.spec c (fun b => m ((c : Thread nD τ).loc b)) : sProp 𝕄) = args m c from
    unscopedRest0_eq c _]
  iintro ⟨Harg, Hlev, Hcr, -, HG⟩
  ihave Hc := (creds_intro (F := F) c) $$ Hcr
  imodintro
  unfold start G'
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest (Ix := Unit) (Name := ℕ) (U := UU) (Lvl := ℕ) (Val := Elt F) cfg0.spec c : sProp 𝕄) = work c from scoped_eq c]
  unfold Φ₀
  iintro ⟨Hs, -, Hr⟩
  isplitl [Hs] <;> iassumption

theorem phi1_exit (c : Dev nD) :
    (dats m 0 c).Φ (Fin.last cfg0.N) ⊢ iprop(iprop(unscopedSems0 c ∗ args m c) ∗ Pipeline.ownSems0 osem c ∗ Pipeline.scopedRest cfg0.spec c) := by
  rw [show (dats m 0 c).Φ (Fin.last cfg0.N) = Φ₁ m c from rfl,
    show (Pipeline.scopedRest (Ix := Unit) (Name := ℕ) (U := UU) (Lvl := ℕ) (Val := Elt F) cfg0.spec c : sProp 𝕄) = work c from scoped_eq c, ownSems0_eq, unscopedSems0_eq]
  unfold Φ₁
  rw [bigSep_ck']
  iintro ⟨⟨Hb, Hx⟩, Hz, Hw, Harg⟩
  isplitl [Hb Harg]
  · isplitl [Hb] <;> iassumption
  isplitl [Hz Hx]
  · isplitl [Hz] <;> iassumption
  iexact Hw

theorem stage_ne : ∀ (w : Fin 4) (s : Fin (spec0 w).nbuf) (k : Ck), csem k ≠ SemLoc.dma ((spec0 w).sem s) := by decide +kernel

theorem stage_lv : ∀ (c : Dev nD) (w : Fin 4) (s : Fin (spec0 w).nbuf), lv ((c : Thread nD τ), SemLoc.dma ((spec0 w).sem s)) () ≤ 0 := by
  intro c w s
  unfold lv
  rw [kOf_ne fun k => stage_ne w s k]
  exact le_rfl

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_owe c _ (due c) 0 (stage_lv c w s) (due_lt0 c 0)
    · exact mayWait_owe c _ [] 0 (stage_lv c w s) (fun x hx => absurd hx List.not_mem_nil)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c.tc : Thread nD τ).loc main_arg2) = m ((c.tc : Thread nD τ).loc main_arg2)
    ∧ r.2.mem ((c.tc : Thread nD τ).loc main_arg3) = m ((c.tc : Thread nD τ).loc main_arg3)

theorem args_read (c : Dev nD) (s' : Phys nD τ sig (Elt F)) : iprop(args m c ∗ SI s')
    ⊢ (iprop(⌜s'.mem.mem ((c.tc : Thread nD τ).loc main_arg2) = m ((c.tc : Thread nD τ).loc main_arg2)
        ∧ s'.mem.mem ((c.tc : Thread nD τ).loc main_arg3) = m ((c.tc : Thread nD τ).loc main_arg3)⌝ ∗ SI s') : sProp 𝕄) := by
  have e : args m c = bigSep ({main_arg2, main_arg3} : Finset (Ref sig .tc)) (fun b => (((c : Thread nD τ).loc b) ↦{fullShare} m ((c : Thread nD τ).loc b) : sProp 𝕄)) :=
    (by rw [bigSep_eq_bigSepL_of_eq [main_arg2, main_arg3] (by decide) (by decide)]; rfl)
  rw [e]
  iintro H
  ihave H := (pointsTo_read_all ({main_arg2, main_arg3} : Finset (Ref sig .tc)) (fun b => (c : Thread nD τ).loc b) (fun b => m ((c : Thread nD τ).loc b)) s') $$ H
  icases H with ⟨%h, HSI⟩
  isplitr
  · ipureintro
    exact ⟨h main_arg2 (by decide), h main_arg3 (by decide)⟩
  iexact HSI

set_option maxRecDepth 8000 in
/-- From any memory with zero counters every weakly fair execution of the program terminates, with the result arrays at
    the computed contents, every argument unchanged and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR (initOf myCells myToks) (1 : Counters)) $$ HX
      icases H with ⟨HX, -⟩
      ihave HX := (show BI.own (((Emb.inl : Emb UB (UB × Counters)).trans embR) (initOf myCells myToks)) ⊢ (BI.own (ER (initOf myCells myToks)) : sProp 𝕄) from .rfl) $$ HX
      imod (fund m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c.tc : Thread nD τ).loc main_arg2) = m ((c.tc : Thread nD τ).loc main_arg2)
      ∧ s.mem ((c.tc : Thread nD τ).loc main_arg3) = m ((c.tc : Thread nD τ).loc main_arg3))
    (hY := fun c s' => by
      iintro ⟨⟨Hu, Harg⟩, -, HSI⟩
      ihave H := (args_read m c s') $$ [Harg HSI]
      · isplitl [Harg] <;> iassumption
      icases H with ⟨%hmem, HSI⟩
      imod (Pipeline.unscopedSems0_read (X := unscopedSems0 c) (c := c) fupd_intro s') $$ [Hu HSI] with ⟨%hsem, HSI⟩
      · isplitl [Hu] <;> iassumption
      imodintro
      isplitr; · ipureintro; exact ⟨hsem, hmem⟩
      iexact HSI)
    (hQ := fun _ h hs => ⟨fun c => ⟨fun w => (h c).1 w, (h c).2.2.2⟩, sem_eq_zero hs fun c => (h c).2.2.1⟩)

end Cert.KernelIdeal.Attn
-- ==== Proof.Frames.lean ====
module
public import proofs.«01_k».proof.Proof.Main

/-! Every run of the kernel ends with its arguments unchanged and every counter at zero. -/

@[expose] public section

noncomputable section

namespace Cert.KernelIdeal.Attn

open Idealize.ShloMosaic Idealize.SL.Sem Cert.KernelIdeal Cert.KernelIdeal.Gen

variable {F : FTy → Type} [FloatOps F] [Named F]

/-- The run ends with the five arguments as they were and every counter at zero. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_main m ρ)
  obtain ⟨hw, h2, h3⟩ := h.1 c
  exact ⟨(hw 0).trans ((dats m 0 c).arrAt_in 0 rfl _), (hw 1).trans ((dats m 0 c).arrAt_in 1 rfl _), h2, h3,
    (hw 2).trans ((dats m 0 c).arrAt_in 2 rfl _)⟩

end Cert.KernelIdeal.Attn
-- ==== Proof.Twin.lean ====
module
public import proofs.«01_k».proof.Proof.Frames
public import proofs.«01_k».proof.Proof.Gen.Kernel.Points
public import proofs.«01_k».proof.Proof.Gen.Kernel.Launch
public import proofs.«01_k».proof.Proof.Gen.Kernel.Skeleton

/-! The kernel as compiled and the kernel with its scale constant named are one program, once the name is read as its
    plain bits. So the run proved for the second is a run of the first. -/

@[expose] public section
noncomputable section
namespace Cert.Twin
open Idealize.ShloMosaic Idealize.SL.Sem

variable {F : FTy → Type} [FloatOps F]

/-- Every named constant read as its plain bits. -/
abbrev plain (F : FTy → Type) [FloatOps F] : Named F := ⟨fun _ _ {φ} b => Scalar.ofBits φ b⟩

set_option maxRecDepth 65536 in
set_option maxHeartbeats 0 in
/-- The compiled kernel's body is the same short program. -/
theorem body_twin : Cert.Kernel.Gen.bodyAt0 (F := F) Cert.Kernel.Gen.t0_0 = @Cert.KernelIdeal.Attn.prog F _ (plain F) := by
  rfl

theorem ideal_body : @Cert.KernelIdeal.Gen.bodyAt0 F _ (plain F) Cert.KernelIdeal.Gen.t0_0 = @Cert.KernelIdeal.Attn.prog F _ (plain F) :=
  @Cert.KernelIdeal.Attn.body_eq F _ (plain F) _

/-- The two bodies are one. -/
theorem bodies : Cert.Kernel.Gen.bodyAt0 (F := F) Cert.Kernel.Gen.t0_0 = @Cert.KernelIdeal.Gen.bodyAt0 F _ (plain F) Cert.KernelIdeal.Gen.t0_0 :=
  body_twin.trans ideal_body.symm

/-- Two body tables are one when their only rows are. -/
theorem defs₀_row (D : Defs Cert.KernelIdeal.nD Cert.KernelIdeal.τ Cert.KernelIdeal.sig (Elt F) Cert.KernelIdeal.Λ₀)
    (D' : Defs Cert.KernelIdeal.nD Cert.KernelIdeal.τ Cert.KernelIdeal.sig (Elt F) Cert.KernelIdeal.Λ₀)
    (h : ∀ p a, D p 0 a = D' p 0 a) : D = D' := by
  funext p l a
  match l, a with
  | 0, a => exact h p a
  | ⟨_ + 1, h⟩, _ => exact absurd h (Nat.not_lt.2 (Nat.le_add_left _ _))

/-- The body has one point and one set of buffers to be called at. -/
theorem args_one : ∀ a b : Fin Cert.KernelIdeal.grid0.N × ((w : Fin 4) → Fin (Cert.KernelIdeal.win0 w).nbuf), a = b := by
  have h1 : ∀ a b : Fin Cert.KernelIdeal.grid0.N, a = b := by decide +kernel
  have h2 : ∀ w (a b : Fin (Cert.KernelIdeal.win0 w).nbuf), a = b := by decide +kernel
  rintro ⟨a, s⟩ ⟨b, t⟩
  rw [h1 a b, show s = t from funext fun w => h2 w _ _]

/-- The two kernels' bodies, as tables, are one. -/
theorem defs₀_eq : Cert.Kernel.defs₀ (F := F) = @Cert.KernelIdeal.defs₀ F _ (plain F) _ := by
  refine defs₀_row _ _ fun p a => ?_
  rw [args_one a (Cert.KernelIdeal.Gen.t0_0, Cert.KernelIdeal.cfg0.slots Cert.KernelIdeal.Gen.t0_0)]
  match p with
  | .tc => exact bodies
  | .scScalar _ => rfl
  | .scVector _ _ => rfl

/-- The two body tables are one. -/
theorem defs_eq : Cert.Kernel.defs (F := F) = @Cert.KernelIdeal.defs F _ (plain F) _ :=
  congrArg (Pipeline.defs (Cert.KernelIdeal.pcfgs (F := F))) defs₀_eq

open Cert.Kernel in
/-- Every run of the compiled kernel ends with its arguments unchanged and every counter at zero. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact @Cert.KernelIdeal.Attn.run_frame F _ (plain F) m ρ

end Cert.Twin
-- ==== Proof.Entries.lean ====
module
public import proofs.«01_k».proof.Proof.Spec
public import Idealize.ShloMosaic.Lib.Pointwise

/-! What the kernel's operations compute on the extended reals, entry by entry. -/

@[expose] public section

noncomputable section

namespace Cert.KernelIdeal.Attn

open Idealize.ShloMosaic Idealize.ShloMosaic.TcCoe Idealize.SL.Sem Cert.KernelIdeal Cert.KernelIdeal.Gen

set_option maxRecDepth 16384

theorem q_apply (w : Vec Ideal S1024x1024 .f32) (x : Vec Ideal S256x1024 .f32) (r : Fin 256) (u : Fin 1024) :
    k0_pay20 (k0_pay2 (k0_pay1 w)) x (ix2 r u) = (∑ t : Fin 1024, x (ix2 r t) * w (ix2 t u)) * Named.named (F := Ideal) κ "scale_log2e" (φ := .f32) 0x3E0293EE#32 := by
  pointwise [k0_pay20, k0_pay2, k0_pay1]

theorem head_apply (q : Vec Ideal S256x128 .bf16) (k v : Vec Ideal S1x1x1024x128 .f32) (r : Fin 256) (e : Fin 128) :
    k0_pay5 q k v (ix2 r e) = Ideal.div
      (∑ s : Fin 1024, Ideal.exp2 (∑ e' : Fin 128, q (ix2 r e') * k (ix4 0 0 s e')) * v (ix4 0 0 s e))
      (∑ s : Fin 1024, Ideal.exp2 (∑ e' : Fin 128, q (ix2 r e') * k (ix4 0 0 s e'))) := by
  pointwise [k0_pay5]
  rfl

theorem part_apply (w : Vec Ideal S1024x1024 .f32) (a : Vec Ideal S256x1024 .bf16) (r : Fin 256) (n : Fin 1024) :
    k0_pay18 (k0_pay3 w) a (ix2 r n) = ∑ t : Fin 1024, a (ix2 r t) * w (ix2 t n) := by
  pointwise [k0_pay18, k0_pay3]

theorem acc_apply (w : Vec Ideal S1024x1024 .f32) (a : Vec Ideal S256x1024 .bf16) (c : FVec Ideal S256x1024 .f32) (r : Fin 256) (n : Fin 1024) :
    k0_pay34 (k0_pay3 w) a (k0_pay35 c) (ix2 r n) = (∑ t : Fin 1024, a (ix2 r t) * w (ix2 t n)) + c (ix2 r n) := by
  pointwise [k0_pay34, k0_pay35, k0_pay3]

theorem back_apply (c : FVec Ideal S256x1024 .f32) : k0_pay68 (k0_pay35 c) = c := by
  funext i
  pointwise [k0_pay68, k0_pay35]

end Cert.KernelIdeal.Attn
-- ==== Proof.Contents.lean ====
module
public import proofs.«01_k».proof.Proof.Main
public import proofs.«01_k».proof.Proof.Entries

/-! What the kernel's buffers and its result hold on the extended reals, entry by entry, in terms of the arguments: row
    `r` of batch `b` of the result is the sum, over the four devices, of the device's part of that row. -/

@[expose] public section

noncomputable section

namespace Cert.KernelIdeal.Attn

open Idealize.ShloMosaic Idealize.ShloMosaic.TcCoe Idealize.SL.Sem Cert.KernelIdeal Cert.KernelIdeal.Gen

set_option maxRecDepth 16384

section
variable {F : FTy → Type} [FloatOps F] [Named F]
variable (m : (ℓ : Loc nD τ sig) → Buf (Elt F) ℓ)

/-! ## The arguments -/

/-- The arguments of device `c`: the rows, the queries' weights, the keys, the values, the output weights. -/
def argX (c : Dev nD) : FVec F S1024x1024 .f32 := m ((c : Thread nD τ).loc main_arg0)
def argQ (c : Dev nD) : FVec F S1024x1024 .f32 := m ((c : Thread nD τ).loc main_arg1)
def argK (c : Dev nD) : FVec F S4x1024x32x128 .f32 := m ((c : Thread nD τ).loc main_arg2)
def argV (c : Dev nD) : FVec F S4x1024x32x128 .f32 := m ((c : Thread nD τ).loc main_arg3)
def argO (c : Dev nD) : FVec F S1024x1024 .f32 := m ((c : Thread nD τ).loc main_arg4)

/-! ## The windows are the whole arrays -/

theorem xV_eq (c : Dev nD) : xV m c = argX m c :=
  Memref.read_access_unit_zero (Elt F) main_arg0 (off := fun a => (win0_0.index (0 : Fin 1)) a * main_arg0.ty.shape.size a)
    (funext fun a => by fin_cases a <;> decide) (fun a => by fin_cases a <;> decide) _
theorem wqV_eq (c : Dev nD) : wqV m c = argQ m c :=
  Memref.read_access_unit_zero (Elt F) main_arg1 (off := fun a => (win0_1.index (0 : Fin 1)) a * main_arg1.ty.shape.size a)
    (funext fun a => by fin_cases a <;> decide) (fun a => by fin_cases a <;> decide) _
theorem woV_eq (c : Dev nD) : woV m c = argO m c :=
  Memref.read_access_unit_zero (Elt F) main_arg4 (off := fun a => (win0_2.index (0 : Fin 1)) a * main_arg4.ty.shape.size a)
    (funext fun a => by fin_cases a <;> decide) (fun a => by fin_cases a <;> decide) _

/-- The result array ends as the body leaves its buffer. -/
theorem finalA_out (c : Dev nD) : finalA m c (3 : Fin 4) = outAt m c := by
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (off := fun a => (win0_3.index (0 : Fin 1)) a * main_v1.ty.shape.size a)
    (funext fun a => by fin_cases a <;> decide) (fun a => by fin_cases a <;> decide) _).symm.trans h

/-! ## Where a step reads -/

/-- The batch of step `j`. -/
def batch (c : Dev nD) (j : Fin 4) : Fin 4 := ⟨(c.val + (chunkOf j).val) % 4, Nat.mod_lt _ (by decide)⟩

theorem tile_at (c : Dev nD) (j : Fin 4) (h : Fin 8) (s : Fin 1024) (e : Fin 128) (hh : 8 * c.val + h.val < 32) :
    (srcR (offs c j) h).emb (ix4 0 s 0 e) = ix4 (batch c j) s ⟨8 * c.val + h.val, hh⟩ e := by
  funext a
  refine Fin.ext ?_
  show (offs c j).off h a + 1 * _ = _
  rw [offs_val]
  fin_cases a
  · exact Nat.add_zero _
  · show 0 + 1 * s.val = s.val; omega
  · exact Nat.add_zero _
  · show 0 + 1 * e.val = e.val; omega

theorem squeeze_at (s : Fin 1024) (e : Fin 128) :
    Shape.reshapeEquiv squeezes_S1x1x1024x128_S1024x128.numel_eq.symm (ix4 (0 : Fin 1) (0 : Fin 1) s e) = (ix2 s e : S1024x128.Idx) := by
  pointwise

theorem spread_at (s : Fin 1024) (e : Fin 128) (h : S1024x128.numel = S1x1024x1x128.numel) :
    Shape.reshapeEquiv h (ix2 s e : S1024x128.Idx) = (ix4 (0 : Fin 1) s (0 : Fin 1) e : S1x1024x1x128.Idx) := by
  pointwise

theorem spread_numel : S1024x128.numel = S1x1024x1x128.numel := by decide

/-- A head's tile of the keys and of the values, read. -/
theorem kM_read (X : (main_arg2 : Ref sig .tc).ty.Contents (Elt F)) (o : Offs) (h : Fin 8) (i : S1024x128.Idx) :
    (srcS kM o h).view.read (Elt F) X i = X ((srcR o h).emb (Shape.reshapeEquiv spread_numel i)) := rfl
theorem vM_read (X : (main_arg3 : Ref sig .tc).ty.Contents (Elt F)) (o : Offs) (h : Fin 8) (i : S1024x128.Idx) :
    (srcS vM o h).view.read (Elt F) X i = X ((srcR o h).emb (Shape.reshapeEquiv spread_numel i)) := rfl

theorem kTile_apply (c : Dev nD) (j : Fin 4) (h : Fin 8) (s : Fin 1024) (e : Fin 128) (hh : 8 * c.val + h.val < 32) :
    kTile m c j h (ix4 0 0 s e) = argK m c (ix4 (batch c j) s ⟨8 * c.val + h.val, hh⟩ e) := by
  unfold kTile
  dsimp only
  rw [squeeze_at, kM_read, spread_at, tile_at c j h s e hh]
  rfl
theorem vTile_apply (c : Dev nD) (j : Fin 4) (h : Fin 8) (s : Fin 1024) (e : Fin 128) (hh : 8 * c.val + h.val < 32) :
    vTile m c j h (ix4 0 0 s e) = argV m c (ix4 (batch c j) s ⟨8 * c.val + h.val, hh⟩ e) := by
  unfold vTile
  dsimp only
  rw [squeeze_at, vM_read, spread_at, tile_at c j h s e hh]
  rfl

theorem head_at (h : Fin 8) (r : Fin 256) (e : Fin 128) : (headR h).emb (ix2 r e) = ix2 r ⟨128 * h.val + e.val, by omega⟩ := by
  funext a
  refine Fin.ext ?_
  show (headR h).off a + 1 * _ = _
  rw [headR_off]
  fin_cases a
  · show 0 + 1 * r.val = r.val; omega
  · show 128 * h.val + 1 * e.val = 128 * h.val + e.val; omega

theorem row_at (c : Dev nD) (k : Fin 4) (r : Fin 256) (n : Fin 1024) (b : Fin 4) (hb : (c.val + k.val) % 4 = b.val) :
    (rowB c k).rect.emb (ix2 r n) = ix2 ⟨b.val * 256 + r.val, by omega⟩ n := by
  funext a
  refine Fin.ext ?_
  show (rowB c k).off a + 1 * _ = _
  rw [rowB_val]
  fin_cases a
  · show ((c.val + k.val) % 4) * 256 + 1 * r.val = b.val * 256 + r.val; omega
  · show 0 + 1 * n.val = n.val; omega

end

/-! ## The entries -/

variable (m : (ℓ : Loc nD τ sig) → Buf (Elt Ideal) ℓ)

theorem gh_lt (d : Dev nD) (h : Fin 8) : 8 * d.val + h.val < 32 := by
  have : d.val < 4 := d.isLt
  omega

/-- Device `d`'s query of row `r` of batch `b`, at column `u` of its weights. -/
def query (d : Dev nD) (b : Fin 4) (r : Fin 256) (u : Fin 1024) : EReal :=
  (∑ t : Fin 1024, argX m d (ix2 ⟨b.val * 256 + r.val, by omega⟩ t) * argQ m d (ix2 t u))
    * Named.named (F := Ideal) κ "scale_log2e" (φ := .f32) 0x3E0293EE#32

/-- Its weight of key `s`, in head `h` of its own. -/
def weight (d : Dev nD) (b : Fin 4) (r : Fin 256) (h : Fin 8) (s : Fin 1024) : EReal :=
  Ideal.exp2 (∑ e : Fin 128, query m d b r ⟨128 * h.val + e.val, by omega⟩
    * argK m d (ix4 b s ⟨8 * d.val + h.val, gh_lt d h⟩ e))

/-- The mean of the values under those weights. -/
def mean (d : Dev nD) (b : Fin 4) (r : Fin 256) (h : Fin 8) (e : Fin 128) : EReal :=
  Ideal.div (∑ s : Fin 1024, weight m d b r h s * argV m d (ix4 b s ⟨8 * d.val + h.val, gh_lt d h⟩ e))
    (∑ s : Fin 1024, weight m d b r h s)

/-- The device's part of the result. -/
def part (d : Dev nD) (b : Fin 4) (r : Fin 256) (n : Fin 1024) : EReal :=
  ∑ t : Fin 1024, mean m d b r ⟨t.val / 128, by omega⟩ ⟨t.val % 128, by omega⟩ * argO m d (ix2 t n)

theorem qAt_apply (c : Dev nD) (j : Fin 4) (r : Fin 256) (u : Fin 1024) : qAt m c j (ix2 r u) = query m c (batch c j) r u := by
  unfold qAt wqS query
  rw [q_apply]
  refine congrArg (· * _) (Finset.sum_congr rfl fun t _ => ?_)
  rw [row_at c (chunkOf j) r t (batch c j) rfl, xV_eq, wqV_eq]

theorem headAt_apply (c : Dev nD) (j : Fin 4) (h : Fin 8) (r : Fin 256) (e : Fin 128) :
    headAt m c j h (ix2 r e) = mean m c (batch c j) r h e := by
  unfold headAt
  rw [head_apply]
  have hw : ∀ s : Fin 1024, Ideal.exp2 (∑ e' : Fin 128, qAt m c j ((headR h).emb (ix2 r e')) * kTile m c j h (ix4 0 0 s e'))
      = weight m c (batch c j) r h s := fun s => by
    unfold weight
    refine congrArg Ideal.exp2 (Finset.sum_congr rfl fun e' _ => ?_)
    rw [head_at, qAt_apply, kTile_apply m c j h s e' (gh_lt c h)]
  simp only [hw, vTile_apply m c j h _ _ (gh_lt c h)]
  rfl

theorem attnAt_apply (c : Dev nD) (j : Fin 4) (r : Fin 256) (t : Fin 1024) :
    attnAt m c j (ix2 r t) = mean m c (batch c j) r ⟨t.val / 128, by omega⟩ ⟨t.val % 128, by omega⟩ := by
  have h := congrFun (attnAt_head m c j ⟨t.val / 128, by omega⟩) (ix2 r ⟨t.val % 128, by omega⟩)
  beta_reduce at h
  rw [headAt_apply, head_at] at h
  rw [← h]
  exact congrArg (fun u => attnAt m c j (ix2 r u)) (Fin.ext (by show t.val = 128 * (t.val / 128) + t.val % 128; omega))

theorem chunk_zero (c : Dev nD) (r : Fin 256) (n : Fin 1024) : chunkN m 0 c (ix2 r n) = part m c (batch c 0) r n := by
  show k0_pay18 (woS m c) (attnAt m c 0) (ix2 r n) = _
  unfold woS
  rw [part_apply]
  simp only [attnAt_apply, woV_eq]
  rfl

theorem chunk_succ (j : ℕ) (c : Dev nD) (r : Fin 256) (n : Fin 1024) :
    chunkN m (j + 1) c (ix2 r n) = part m c (batch c (Fin.ofNat 4 (j + 1))) r n + chunkN m j (prv c) (ix2 r n) := by
  show k0_pay34 (woS m c) (attnAt m c (Fin.ofNat 4 (j + 1))) (k0_pay35 (chunkN m j (prv c))) (ix2 r n) = _
  unfold woS
  rw [acc_apply]
  simp only [attnAt_apply, woV_eq]
  rfl

/-- All four steps of a chunk work on one batch, on the four devices. -/
theorem batch_last : ∀ c : Dev nD, batch c 3 = nxt c ∧ batch (prv c) 2 = nxt c ∧ batch (opp c) 1 = nxt c ∧ batch (nxt c) 0 = nxt c := by
  decide

theorem sum_ring (f : Dev nD → EReal) (c : Dev nD) : f c + (f (prv c) + (f (opp c) + f (nxt c))) = ∑ d : Dev nD, f d := by
  rw [show (∑ d : Dev nD, f d) = f 0 + f 1 + f 2 + f 3 from Fin.sum_univ_four f]
  have h : c = 0 ∨ c = 1 ∨ c = 2 ∨ c = 3 := by revert c; decide
  rcases h with rfl | rfl | rfl | rfl
  · show f 0 + (f 3 + (f 2 + f 1)) = _; ac_rfl
  · show f 1 + (f 0 + (f 3 + f 2)) = _; ac_rfl
  · show f 2 + (f 1 + (f 0 + f 3)) = _; ac_rfl
  · show f 3 + (f 2 + (f 1 + f 0)) = _; ac_rfl

/-- A finished chunk is the sum of all the parts. -/
theorem chunk_last (c : Dev nD) (r : Fin 256) (n : Fin 1024) : chunkN m 3 c (ix2 r n) = ∑ d : Dev nD, part m d (nxt c) r n := by
  obtain ⟨h3, h2, h1, h0⟩ := batch_last c
  rw [chunk_succ m 2, chunk_succ m 1, chunk_succ m 0, chunk_zero, prv_prv, prv_opp]
  rw [show (Fin.ofNat 4 (2 + 1)) = 3 from rfl, show (Fin.ofNat 4 (1 + 1)) = 2 from rfl, show (Fin.ofNat 4 (0 + 1)) = 1 from rfl, h3, h2, h1, h0]
  exact sum_ring (fun d => part m d (nxt c) r n) c

theorem outChunk_apply (c : Dev nD) (k : Fin 4) (r : Fin 256) (n : Fin 1024) (b : Fin 4) (hb : (c.val + k.val) % 4 = b.val) :
    outChunk m c k (ix2 r n) = ∑ d : Dev nD, part m d b r n := by
  have hs : ∀ e : Dev nD, nxt e = b → k0_pay68 (stageN m 3 e) (ix2 r n) = ∑ d : Dev nD, part m d b r n := fun e he => by
    unfold stageN; rw [back_apply, chunk_last, he]
  have hc : c.val < 4 := c.isLt
  match k, hb with
  | 0, hb => exact hs (prv c) (Fin.ext (by show ((c.val + 3) % 4 + 1) % 4 = b.val; have : (c.val + 0) % 4 = b.val := hb; omega))
  | 1, hb => show chunkN m 3 c (ix2 r n) = _; rw [chunk_last, show nxt c = b from Fin.ext hb]
  | 2, hb => exact hs (nxt c) (Fin.ext (by show ((c.val + 1) % 4 + 1) % 4 = b.val; have : (c.val + 2) % 4 = b.val := hb; omega))
  | 3, hb => exact hs (opp c) (Fin.ext (by show ((c.val + 2) % 4 + 1) % 4 = b.val; have : (c.val + 3) % 4 = b.val := hb; omega))

/-- The result, on every device. -/
theorem outAt_apply (c : Dev nD) (b : Fin 4) (r : Fin 256) (n : Fin 1024) :
    outAt m c (ix2 ⟨b.val * 256 + r.val, by omega⟩ n) = ∑ d : Dev nD, part m d b r n := by
  have hc : c.val < 4 := c.isLt
  have hb : (c.val + ((b.val + 4 - c.val) % 4)) % 4 = b.val := by omega
  have h := congrFun (outAt_row m c ⟨(b.val + 4 - c.val) % 4, Nat.mod_lt _ (by decide)⟩) (ix2 r n)
  beta_reduce at h
  rw [outChunk_apply m c _ r n b hb, row_at c _ r n b hb] at h
  exact h

end Cert.KernelIdeal.Attn
-- ==== Proof.Ref.lean ====
module
public import proofs.«01_k».proof.Proof.Gen.ReferenceIdeal
public import Idealize.ShloMosaic.Lib.StableHlo.Run

/-! The reference's run: one device computes, in order, the queries, the scaled scores, one step of a streamed softmax,
    the weighted values and the output projection. Here: its result as a function of the five arguments, and the proof
    that every run ends with it, the arguments unchanged and every counter at zero. -/

@[expose] public section

noncomputable section

namespace Cert.ReferenceIdeal.Attn

open Idealize.ShloMosaic Idealize.ShloMosaic.TcCoe Idealize.ShloMosaic.StableHlo Idealize.SL.Sem
open Cert.ReferenceIdeal Cert.ReferenceIdeal.Gen

variable {F : FTy → Type} [FloatOps F]

/-- The queries, cut into batches and heads. -/
def queries (x : FVec F S1024x1024 .f32) (wq : FVec F S1024x4096 .f32) : FVec F S4x256x32x128 .f32 :=
  shapeCast S4x256x32x128 (Host.dotGeneral dot_S4x256x1024_S1024x4096_S4x256x4096_2_0_01_1_n_n none
    (shapeCast S4x256x1024 x shapeCasts_S1024x1024_S4x256x1024) wq) shapeCasts_S4x256x4096_S4x256x32x128

/-- The scores of every query against every key of its batch and head, divided by the square root of the width. -/
def scores (q : FVec F S4x256x32x128 .f32) (k : FVec F S4x1024x32x128 .f32) : FVec F S4x32x256x1024 .f32 :=
  Host.divf (Host.dotGeneral dot_S4x256x32x128_S4x1024x32x128_S4x32x256x1024_3_3_1_1_02_02 none q k)
    (broadcastInDim S4x32x256x1024 ![] bcast_S_S4x32x256x1024 (Host.sqrt (constant S_ .f32 0x43000000#32)))

/-- The running maximum before the step: minus infinity. -/
def start : FVec F S4x32x256x1 .f32 := broadcastInDim S4x32x256x1 ![] bcast_S_S4x32x256x1 (constant S_ .f32 0xFF800000#32)

/-- The largest score of every query. -/
def largest (s : FVec F S4x32x256x1024 .f32) : FVec F S4x32x256 .f32 :=
  Host.reduce FloatOps.maximumf s (constant S_ .f32 0xFF800000#32) reducesTo_S4x32x256x1024_S4x32x256_d3 h_S_

/-- The running maximum after the step. -/
def peak (s : FVec F S4x32x256x1024 .f32) : FVec F S4x32x256x1 .f32 :=
  maximumf start (broadcastInDim S4x32x256x1 ![0, 1, 2] bcast_S4x32x256_S4x32x256x1_0_1_2 (largest s))

/-- What the step multiplies the running sums by. -/
def decay (M : FVec F S4x32x256x1 .f32) : FVec F S4x32x256x1 .f32 := Host.exp (subf start M)

/-- The exponentials of the scores below their maximum. -/
def weights (s : FVec F S4x32x256x1024 .f32) (M : FVec F S4x32x256x1 .f32) : FVec F S4x32x256x1024 .f32 :=
  Host.exp (subf s (broadcastInDim S4x32x256x1024 ![0, 1, 2, 3] bcast_S4x32x256x1_S4x32x256x1024_0_1_2_3 M))

/-- The running sum of the weights after the step. -/
def total (a : FVec F S4x32x256x1 .f32) (p : FVec F S4x32x256x1024 .f32) : FVec F S4x32x256x1 .f32 :=
  addf (mulf (broadcastInDim S4x32x256x1 ![] bcast_S_S4x32x256x1 (constant S_ .f32 0x00000000#32)) a)
    (broadcastInDim S4x32x256x1 ![0, 1, 2] bcast_S4x32x256_S4x32x256x1_0_1_2
      (Host.reduceAdd p (constant S_ .f32 0x00000000#32) reducesTo_S4x32x256x1024_S4x32x256_d3 h_S_))

/-- One number per batch, head and query, repeated along the width. -/
def along (a : FVec F S4x32x256x1 .f32) : FVec F S4x256x32x128 .f32 :=
  broadcastInDim S4x256x32x128 ![0, 1, 2, 3] bcast_S4x256x32x1_S4x256x32x128_0_1_2_3
    (transpose S4x256x32x1 [0, 2, 1, 3] a transposes_S4x32x256x1_S4x256x32x1_0_2_1_3)

/-- The running weighted sum of the values after the step. -/
def mixed (a : FVec F S4x32x256x1 .f32) (p : FVec F S4x32x256x1024 .f32) (v : FVec F S4x1024x32x128 .f32) : FVec F S4x256x32x128 .f32 :=
  addf (mulf (broadcastInDim S4x256x32x128 ![] bcast_S_S4x256x32x128 (constant S_ .f32 0x00000000#32)) (along a))
    (transpose S4x256x32x128 [0, 3, 1, 2]
      (Host.dotGeneral dot_S4x1024x32x128_S4x32x256x1024_S4x32x128x256_1_3_3_2_02_01 none v p) transposes_S4x32x128x256_S4x256x32x128_0_3_1_2)

/-- Attention from the scores and the values. -/
def attend (s : FVec F S4x32x256x1024 .f32) (v : FVec F S4x1024x32x128 .f32) : FVec F S4x256x32x128 .f32 :=
  Host.divf (mixed (decay (peak s)) (weights s (peak s)) v) (along (total (decay (peak s)) (weights s (peak s))))

/-- The output projection, the batches put back together. -/
def project (a : FVec F S4x256x32x128 .f32) (wo : FVec F S4096x1024 .f32) : FVec F S1024x1024 .f32 :=
  shapeCast S1024x1024 (Host.dotGeneral dot_S4x256x4096_S4096x1024_S4x256x1024_2_0_01_1_n_n none
    (shapeCast S4x256x4096 a shapeCasts_S4x256x32x128_S4x256x4096) wo) shapeCasts_S4x256x1024_S1024x1024

/-- The reference's result. -/
def refOut (x : FVec F S1024x1024 .f32) (wq : FVec F S1024x4096 .f32) (k v : FVec F S4x1024x32x128 .f32)
    (wo : FVec F S4096x1024 .f32) : FVec F S1024x1024 .f32 :=
  project (attend (scores (queries x wq) k) v) wo

/-- The reference's operations, in order. -/
abbrev ops : List (HloOp τ sig (Elt F)) :=
  [ reshape main_arg0 main_v0 (rfl : (.f32 : EltTy) = .f32) shapeCasts_S1024x1024_S4x256x1024,
    binary main_v0 main_arg1 main_v1 ((fun l r => Host.dotGeneral dot_S4x256x1024_S1024x4096_S4x256x4096_2_0_01_1_n_n none l r)),
    reshape main_v1 main_v2 (rfl : (.f32 : EltTy) = .f32) shapeCasts_S4x256x4096_S4x256x32x128,
    nullary main_cst (constant S_ .f32 0x00000000#32),
    unary main_cst main_v3 (broadcastInDim S4x256x32x128 ![] bcast_S_S4x256x32x128),
    nullary main_cst_0 (constant S_ .f32 0xFF800000#32),
    unary main_cst_0 main_v4 (broadcastInDim S4x32x256x1 ![] bcast_S_S4x32x256x1),
    nullary main_cst_1 (constant S_ .f32 0x00000000#32),
    unary main_cst_1 main_v5 (broadcastInDim S4x32x256x1 ![] bcast_S_S4x32x256x1),
    binary main_v2 main_arg2 main_v6 ((fun l r => Host.dotGeneral dot_S4x256x32x128_S4x1024x32x128_S4x32x256x1024_3_3_1_1_02_02 none l r)),
    nullary main_cst_2 (constant S_ .f32 0x43000000#32),
    unary main_cst_2 main_v7 (Host.sqrt),
    unary main_v7 main_v8 (broadcastInDim S4x32x256x1024 ![] bcast_S_S4x32x256x1024),
    binary main_v6 main_v8 main_v9 (Host.divf),
    nullary main_cst_3 (constant S_ .f32 0xFF800000#32),
    binary main_v9 main_cst_3 main_v10 ((fun x v => Host.reduce FloatOps.maximumf x v reducesTo_S4x32x256x1024_S4x32x256_d3 h_S_)),
    unary main_v10 main_v11 (broadcastInDim S4x32x256x1 ![0, 1, 2] bcast_S4x32x256_S4x32x256x1_0_1_2),
    binary main_v4 main_v11 main_v12 (maximumf),
    binary main_v4 main_v12 main_v13 (subf),
    unary main_v13 main_v14 (Host.exp),
    unary main_v12 main_v15 (broadcastInDim S4x32x256x1024 ![0, 1, 2, 3] bcast_S4x32x256x1_S4x32x256x1024_0_1_2_3),
    binary main_v9 main_v15 main_v16 (subf),
    unary main_v16 main_v17 (Host.exp),
    binary main_v5 main_v14 main_v18 (mulf),
    nullary main_cst_4 (constant S_ .f32 0x00000000#32),
    binary main_v17 main_cst_4 main_v19 ((fun x v => Host.reduceAdd x v reducesTo_S4x32x256x1024_S4x32x256_d3 h_S_)),
    unary main_v19 main_v20 (broadcastInDim S4x32x256x1 ![0, 1, 2] bcast_S4x32x256_S4x32x256x1_0_1_2),
    binary main_v18 main_v20 main_v21 (addf),
    unary main_v14 main_v22 ((transpose S4x256x32x1 [0, 2, 1, 3] · transposes_S4x32x256x1_S4x256x32x1_0_2_1_3)),
    unary main_v22 main_v23 (broadcastInDim S4x256x32x128 ![0, 1, 2, 3] bcast_S4x256x32x1_S4x256x32x128_0_1_2_3),
    binary main_v3 main_v23 main_v24 (mulf),
    binary main_arg3 main_v17 main_v25 ((fun l r => Host.dotGeneral dot_S4x1024x32x128_S4x32x256x1024_S4x32x128x256_1_3_3_2_02_01 none l r)),
    unary main_v25 main_v26 ((transpose S4x256x32x128 [0, 3, 1, 2] · transposes_S4x32x128x256_S4x256x32x128_0_3_1_2)),
    binary main_v24 main_v26 main_v27 (addf),
    unary main_v21 main_v28 ((transpose S4x256x32x1 [0, 2, 1, 3] · transposes_S4x32x256x1_S4x256x32x1_0_2_1_3)),
    unary main_v28 main_v29 (broadcastInDim S4x256x32x128 ![0, 1, 2, 3] bcast_S4x256x32x1_S4x256x32x128_0_1_2_3),
    binary main_v27 main_v29 main_v30 (Host.divf),
    reshape main_v30 main_v31 (rfl : (.f32 : EltTy) = .f32) shapeCasts_S4x256x32x128_S4x256x4096,
    binary main_v31 main_arg4 main_v32 ((fun l r => Host.dotGeneral dot_S4x256x4096_S4096x1024_S4x256x1024_2_0_01_1_n_n none l r)),
    reshape main_v32 main_v33 (rfl : (.f32 : EltTy) = .f32) shapeCasts_S4x256x1024_S1024x1024 ]

/-- The reference is that straight line. -/
theorem main_eq (c : Dev nD) : main (F := F) c = seq ops := rfl

set_option maxHeartbeats 4000000 in
/-- Folding the operations leaves the result in its buffer, -/
theorem out_eq (V : Valuation τ sig (Elt F)) : after ops V (main_v33 : DevRef τ sig) =
    refOut (V (main_arg0 : DevRef τ sig)) (V (main_arg1 : DevRef τ sig)) (V (main_arg2 : DevRef τ sig))
      (V (main_arg3 : DevRef τ sig)) (V (main_arg4 : DevRef τ sig)) := by
  after_results
  rfl

/-- and no argument is written. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

/-- Nothing is scoped in this program. -/
theorem scopedRefs_eq : (Finset.univ.filter fun b : Ref sig .tc => b.isScoped) = ∅ := by decide
theorem scopedSems_eq : (Finset.univ.filter fun sm : SemLoc sig => sm.isScoped .tc) = ∅ := by decide

/-- Every operation touches the device's own references only. -/
theorem ops_sub : (ops : List (HloOp τ sig (Elt F))).Forall fun op => op.bufs ⊆ tcRefs τ sig :=
  ⟨reshape_bufs_sub .., binary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., unary_bufs_sub .., binary_bufs_sub .., nullary_bufs_sub .., binary_bufs_sub .., unary_bufs_sub .., binary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., reshape_bufs_sub .., binary_bufs_sub .., reshape_bufs_sub ..⟩

/-- Every run of the reference ends with its result, its arguments unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v33).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.Attn
-- ==== Proof.RefEntries.lean ====
module
public import proofs.«01_k».proof.Proof.Ref
public import Idealize.ShloMosaic.Lib.Pointwise

/-! What the reference computes on the extended reals, entry by entry. -/

@[expose] public section

noncomputable section

namespace Cert.ReferenceIdeal.Attn

open Idealize.ShloMosaic Idealize.ShloMosaic.TcCoe Idealize.SL.Sem Cert.ReferenceIdeal Cert.ReferenceIdeal.Gen

set_option maxRecDepth 16384

/-- The word of minus infinity. -/
theorem negInf : Ideal.ofBits .f32 0xFF800000#32 = (⊥ : EReal) := by
  simp [Ideal.ofBits, Ideal.ieee]

/-- The word of 128. -/
theorem word128 : Ideal.ofBits .f32 0x43000000#32 = ((128 : ℝ) : EReal) := by
  simp [Ideal.ofBits, Ideal.ieee, -EReal.coe_mul]; norm_num

theorem queries_apply (x : FVec Ideal S1024x1024 .f32) (wq : FVec Ideal S1024x4096 .f32) (b : Fin 4) (i : Fin 256) (h : Fin 32) (e : Fin 128) :
    queries x wq (ix4 b i h e) = ∑ t : Fin 1024, x (ix2 ⟨b.val * 256 + i.val, by omega⟩ t) * wq (ix2 t ⟨h.val * 128 + e.val, by omega⟩) := by
  pointwise [queries]

theorem scores_apply (q : FVec Ideal S4x256x32x128 .f32) (k : FVec Ideal S4x1024x32x128 .f32) (b : Fin 4) (h : Fin 32) (i : Fin 256) (s : Fin 1024) :
    scores q k (ix4 b h i s) = Ideal.div (∑ e : Fin 128, q (ix4 b i h e) * k (ix4 b s h e)) (Ideal.sqrt (Ideal.ofBits .f32 0x43000000#32)) := by
  pointwise [scores]

/-- The largest of finitely many reals, one at least, counted from minus infinity, is a real. -/
theorem fold_max_real {ι : Type} (S : Finset ι) (f : ι → EReal) (hf : ∀ i, ∃ r : ℝ, f i = r) (i₀ : ι) (h₀ : i₀ ∈ S) :
    ∃ r : ℝ, S.fold max ⊥ f = r := by
  refine ⟨(S.fold max ⊥ f).toReal, (EReal.coe_toReal (ne_of_lt ?_) (ne_of_gt ?_)).symm⟩
  · refine Finset.fold_max_lt _ |>.mpr ⟨bot_lt_top, fun x _ => ?_⟩
    obtain ⟨r, hr⟩ := hf x
    rw [hr]; exact EReal.coe_lt_top r
  · refine Finset.lt_fold_max _ |>.mpr (.inr ⟨i₀, h₀, ?_⟩)
    obtain ⟨r, hr⟩ := hf i₀
    rw [hr]; exact EReal.bot_lt_coe r

theorem drop_first (b : Fin 4) (h : Fin 32) (i : Fin 256) :
    reducesTo_S4x32x256x1024_S4x32x256_d3.drop (ix4 b h i 0) = ix3 b h i := by
  funext a
  fin_cases a <;> rfl

/-- The largest of the scores, when they are reals, is a real. -/
theorem largest_real (s : FVec Ideal S4x32x256x1024 .f32) (hs : ∀ i, ∃ r : ℝ, s i = r) (b : Fin 4) (h : Fin 32) (i : Fin 256) :
    ∃ r : ℝ, largest s (ix3 b h i) = r := by
  unfold largest
  rw [Host.reduce_eq_fold]
  have e : (constant (F := Ideal) S_ .f32 0xFF800000#32) (Shape.Idx.first h_S_) = (⊥ : EReal) := negInf
  rw [e]
  exact fold_max_real _ s hs (ix4 b h i 0) (Finset.mem_filter.mpr ⟨Finset.mem_univ _, drop_first b h i⟩)

theorem above_apply (L : FVec Ideal S4x32x256 .f32) (b : Fin 4) (h : Fin 32) (i : Fin 256) :
    maximumf start (broadcastInDim S4x32x256x1 ![0, 1, 2] bcast_S4x32x256_S4x32x256x1_0_1_2 L) (ix4 b h i 0)
      = max (Ideal.ofBits .f32 0xFF800000#32) (L (ix3 b h i)) := by
  pointwise [start]

theorem peak_apply (s : FVec Ideal S4x32x256x1024 .f32) (b : Fin 4) (h : Fin 32) (i : Fin 256) :
    peak s (ix4 b h i 0) = max (Ideal.ofBits .f32 0xFF800000#32) (largest s (ix3 b h i)) :=
  above_apply (largest s) b h i

/-- The running maximum after the step is a real. -/
theorem peak_real (s : FVec Ideal S4x32x256x1024 .f32) (hs : ∀ i, ∃ r : ℝ, s i = r) (b : Fin 4) (h : Fin 32) (i : Fin 256) :
    ∃ r : ℝ, peak s (ix4 b h i 0) = r := by
  obtain ⟨r, hr⟩ := largest_real s hs b h i
  exact ⟨r, by rw [peak_apply, hr, negInf]; exact max_eq_right bot_le⟩

theorem decay_apply (M : FVec Ideal S4x32x256x1 .f32) (b : Fin 4) (h : Fin 32) (i : Fin 256) :
    decay M (ix4 b h i 0) = Ideal.exp (Ideal.ofBits .f32 0xFF800000#32 - M (ix4 b h i 0)) := by
  pointwise [decay, start]

theorem weights_apply (s : FVec Ideal S4x32x256x1024 .f32) (M : FVec Ideal S4x32x256x1 .f32) (b : Fin 4) (h : Fin 32) (i : Fin 256) (k : Fin 1024) :
    weights s M (ix4 b h i k) = Ideal.exp (s (ix4 b h i k) - M (ix4 b h i 0)) := by
  pointwise [weights]

theorem total_apply (a : FVec Ideal S4x32x256x1 .f32) (p : FVec Ideal S4x32x256x1024 .f32) (b : Fin 4) (h : Fin 32) (i : Fin 256) :
    total a p (ix4 b h i 0) = ∑ k : Fin 1024, p (ix4 b h i k) := by
  pointwise [total]
  rw [zero_mul, zero_add]

theorem along_apply (a : FVec Ideal S4x32x256x1 .f32) (b : Fin 4) (h : Fin 32) (i : Fin 256) (e : Fin 128) :
    along a (ix4 b i h e) = a (ix4 b h i 0) := by
  pointwise [along]

theorem mixed_apply (a : FVec Ideal S4x32x256x1 .f32) (p : FVec Ideal S4x32x256x1024 .f32) (v : FVec Ideal S4x1024x32x128 .f32)
    (b : Fin 4) (h : Fin 32) (i : Fin 256) (e : Fin 128) :
    mixed a p v (ix4 b i h e) = ∑ k : Fin 1024, v (ix4 b k h e) * p (ix4 b h i k) := by
  pointwise [mixed, along]
  rw [zero_mul, zero_add]

theorem project_apply (a : FVec Ideal S4x256x32x128 .f32) (wo : FVec Ideal S4096x1024 .f32) (b : Fin 4) (i : Fin 256) (n : Fin 1024) :
    project a wo (ix2 ⟨b.val * 256 + i.val, by omega⟩ n) = ∑ u : Fin 4096, a (ix4 b i ⟨u.val / 128, by omega⟩ ⟨u.val % 128, by omega⟩) * wo (ix2 u n) := by
  pointwise [project]

end Cert.ReferenceIdeal.Attn
-- ==== Proof.Softmax.lean ====
module
public import Idealize.ShloMosaic.PureOps.Ideal
public import Mathlib.Analysis.SpecialFunctions.Pow.Real

/-! Softmax on the extended reals: a common positive factor of the weights cancels, so subtracting the maximum first, as
    the reference does, and raising two to the scaled score, as the kernel does, give the same mean. The values may be
    infinite. -/

@[expose] public section

noncomputable section

namespace Cert.Softmax

open Idealize.ShloMosaic

theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A nonnegative real factor comes out of a sum. -/
theorem sum_mul_real {ι : Type} (S : Finset ι) (f : ι → EReal) (c : ℝ) (hc : 0 ≤ c) : ∑ i ∈ S, f i * (c : EReal) = (∑ i ∈ S, f i) * (c : EReal) := by
  classical
  induction S using Finset.induction_on with
  | empty => simp
  | insert a S h ih =>
    rw [Finset.sum_insert h, Finset.sum_insert h, ih,
      EReal.right_distrib_of_nonneg_of_ne_top (by exact_mod_cast hc) (EReal.coe_ne_top c)]

/-- A product of reals summed is a real. -/
theorem sum_prod {n : ℕ} (a b : Fin n → ℝ) : ∑ i, (a i : EReal) * (b i : EReal) = ((∑ i, a i * b i : ℝ) : EReal) := by
  rw [coe_sum]; simp only [EReal.coe_mul]

variable {n : ℕ}

/-- The weighted mean does not see a common positive factor of its weights. -/
theorem mean_scale (a : Fin (n + 1) → ℝ) (ha : ∀ i, 0 < a i) (c : ℝ) (hc : 0 < c) (v : Fin (n + 1) → EReal) :
    Ideal.div (∑ i, v i * ((a i * c : ℝ) : EReal)) (∑ i, ((a i * c : ℝ) : EReal))
      = Ideal.div (∑ i, (a i : EReal) * v i) (∑ i, (a i : EReal)) := by
  have hs : 0 < ∑ i, a i := Finset.sum_pos (fun i _ => ha i) Finset.univ_nonempty
  have e1 : ∑ i, v i * ((a i * c : ℝ) : EReal) = (∑ i, (a i : EReal) * v i) * (c : EReal) := by
    rw [← sum_mul_real _ _ _ hc.le]
    refine Finset.sum_congr rfl fun i _ => ?_
    rw [EReal.coe_mul, ← mul_assoc, mul_comm (v i)]
  have e2 : ∑ i, ((a i * c : ℝ) : EReal) = (((∑ i, a i) * c : ℝ) : EReal) := by rw [Finset.sum_mul, coe_sum]
  rw [e1, e2, ← coe_sum, Ideal.div_coe (mul_pos hs hc).ne', Ideal.div_coe hs.ne', mul_assoc, ← EReal.coe_mul]
  congr 2
  field_simp

/-- Two to the scaled score is the exponential of the score over the square root of the width. -/
theorem pow_eq (t : ℝ) : Real.rpow 2 (t * ((Real.sqrt 128) * (Real.log 2))⁻¹) = Real.exp (t / Real.sqrt 128) := by
  have h2 : Real.log 2 ≠ 0 := (Real.log_pos (by norm_num)).ne'
  have h128 : Real.sqrt 128 ≠ 0 := (Real.sqrt_pos.mpr (by norm_num)).ne'
  show (2 : ℝ) ^ (t * ((Real.sqrt 128) * (Real.log 2))⁻¹) = _
  rw [Real.rpow_def_of_pos (by norm_num)]
  congr 1
  field_simp

/-- The kernel's mean of the values is the reference's: queries and keys real, the values any. -/
theorem head_eq {d : ℕ} (Q : Fin d → ℝ) (K : Fin (n + 1) → Fin d → ℝ) (v : Fin (n + 1) → EReal) (M : ℝ) :
    Ideal.div
        (∑ s, Ideal.exp2 (∑ e, ((Q e : EReal) * (((Real.sqrt 128 * Real.log 2)⁻¹ : ℝ) : EReal)) * (K s e : EReal)) * v s)
        (∑ s, Ideal.exp2 (∑ e, ((Q e : EReal) * (((Real.sqrt 128 * Real.log 2)⁻¹ : ℝ) : EReal)) * (K s e : EReal)))
      = Ideal.div
        (∑ s, v s * Ideal.exp (Ideal.div (∑ e, (Q e : EReal) * (K s e : EReal)) (Ideal.sqrt ((128 : ℝ) : EReal)) - (M : EReal)))
        (∑ s, Ideal.exp (Ideal.div (∑ e, (Q e : EReal) * (K s e : EReal)) (Ideal.sqrt ((128 : ℝ) : EReal)) - (M : EReal))) := by
  have h128 : Real.sqrt 128 ≠ 0 := (Real.sqrt_pos.mpr (by norm_num)).ne'
  have ek : ∀ s, Ideal.exp2 (∑ e, ((Q e : EReal) * (((Real.sqrt 128 * Real.log 2)⁻¹ : ℝ) : EReal)) * (K s e : EReal))
      = ((Real.exp ((∑ e, Q e * K s e) / Real.sqrt 128) : ℝ) : EReal) := fun s => by
    simp only [← EReal.coe_mul]
    rw [← coe_sum, Ideal.exp2_coe, ← pow_eq, Finset.sum_mul]
    exact congrArg (fun t => ((Real.rpow 2 t : ℝ) : EReal)) (Finset.sum_congr rfl fun e _ => by ring)
  have er : ∀ s, Ideal.exp (Ideal.div (∑ e, (Q e : EReal) * (K s e : EReal)) (Ideal.sqrt ((128 : ℝ) : EReal)) - (M : EReal))
      = ((Real.exp ((∑ e, Q e * K s e) / Real.sqrt 128) * Real.exp (-M) : ℝ) : EReal) := fun s => by
    rw [sum_prod, Ideal.sqrt_coe, if_neg (by norm_num), Ideal.div_coe h128, ← EReal.coe_mul, ← EReal.coe_sub, Ideal.exp_coe,
      ← Real.exp_add]
    congr 3
    field_simp
  simp only [ek, er]
  exact (mean_scale _ (fun _ => Real.exp_pos _) _ (Real.exp_pos _) v).symm

end Cert.Softmax
-- ==== Proof.Values.lean ====
module
public import proofs.«01_k».proof.Proof.Contents
public import proofs.«01_k».proof.Proof.RefEntries
public import proofs.«01_k».proof.Proof.Softmax
public import Idealize.ShloMosaic.PureOps.IdealRules

/-! The kernel's result is the reference's: head by head the two softmaxes give one mean, and the devices' parts of the
    output projection sum to the whole. -/

@[expose] public section

noncomputable section

namespace Cert.Values

open Idealize.ShloMosaic Idealize.ShloMosaic.TcCoe Cert.ReferenceIdeal.Attn
open Cert.KernelIdeal (nD τ sig)
open Cert.KernelIdeal.Attn (argX argQ argK argV argO query weight mean part gh_lt outAt outAt_apply)

/-- Every entry is a real number. -/
def Reals {ι : Type} (f : ι → EReal) : Prop := ∀ i, ∃ r : ℝ, f i = r

theorem sum_prod_reals {n : ℕ} (a b : Fin n → EReal) (ha : Reals a) (hb : Reals b) : ∃ r : ℝ, ∑ i, a i * b i = r := by
  choose p hp using ha
  choose q hq using hb
  exact ⟨_, by simp only [hp, hq]; exact Softmax.sum_prod p q⟩

variable (X : FVec Ideal ⟨2, ![1024, 1024]⟩ .f32) (Q : FVec Ideal ⟨2, ![1024, 4096]⟩ .f32)
  (K V : FVec Ideal ⟨4, ![4, 1024, 32, 128]⟩ .f32) (O : FVec Ideal ⟨2, ![4096, 1024]⟩ .f32)

theorem queries_real (hX : Reals X) (hQ : Reals Q) (b : Fin 4) (i : Fin 256) (h : Fin 32) (e : Fin 128) :
    ∃ r : ℝ, queries X Q (ix4 b i h e) = r := by
  rw [queries_apply]
  exact sum_prod_reals _ _ (fun _ => hX _) (fun _ => hQ _)

theorem scores_real (hX : Reals X) (hQ : Reals Q) (hK : Reals K) : Reals (scores (queries X Q) K) := fun j => by
  obtain ⟨b, h, i, s, rfl⟩ : ∃ (b : Fin 4) (h : Fin 32) (i : Fin 256) (s : Fin 1024), j = ix4 b h i s := ⟨j 0, j 1, j 2, j 3, eq_ix4 j⟩
  rw [scores_apply, word128]
  obtain ⟨r, hr⟩ := sum_prod_reals (fun e => queries X Q (ix4 b i h e)) (fun e => K (ix4 b s h e))
    (fun e => queries_real X Q hX hQ b i h e) (fun _ => hK _)
  refine ⟨r * (1 / Real.sqrt 128), ?_⟩
  rw [hr, Ideal.sqrt_coe, if_neg (by norm_num), Ideal.div_coe (Real.sqrt_pos.mpr (by norm_num)).ne', EReal.coe_mul]

/-- One entry of the reference's attention. -/
theorem attend_apply (s : FVec Ideal ⟨4, ![4, 32, 256, 1024]⟩ .f32) (b : Fin 4) (i : Fin 256) (h : Fin 32) (e : Fin 128) :
    attend s V (ix4 b i h e) = Ideal.div (∑ k : Fin 1024, V (ix4 b k h e) * Ideal.exp (s (ix4 b h i k) - peak s (ix4 b h i 0)))
      (∑ k : Fin 1024, Ideal.exp (s (ix4 b h i k) - peak s (ix4 b h i 0))) := by
  show Ideal.div (mixed (decay (peak s)) (weights s (peak s)) V (ix4 b i h e)) (along (total (decay (peak s)) (weights s (peak s))) (ix4 b i h e)) = _
  rw [mixed_apply, along_apply, total_apply]
  simp only [weights_apply]

variable (m : (ℓ : Loc nD τ sig) → Buf (Elt Ideal) ℓ)

/-- The devices hold the arguments: the rows, the keys and the values whole, the weights in four blocks. -/
structure Holds : Prop where
  x : ∀ d, argX m d = X
  k : ∀ d, argK m d = K
  v : ∀ d, argV m d = V
  q : ∀ (d : Dev nD) (t u : Fin 1024) (h : d.val * 1024 + u.val < 4096), argQ m d (ix2 t u) = Q (ix2 t ⟨d.val * 1024 + u.val, h⟩)
  o : ∀ (d : Dev nD) (t n : Fin 1024) (h : d.val * 1024 + t.val < 4096), argO m d (ix2 t n) = O (ix2 ⟨d.val * 1024 + t.val, h⟩ n)

theorem scale_eq : Named.named (F := Ideal) Cert.KernelIdeal.κ "scale_log2e" (φ := .f32) 0x3E0293EE#32 = (((Real.sqrt 128 * Real.log 2)⁻¹ : ℝ) : EReal) :=
  IdealRules.named_const.ideal_named_scalar _ _ _ _ rfl

variable {X Q K V O m}

theorem query_eq (H : Holds X Q K V O m) (d : Dev nD) (b : Fin 4) (r : Fin 256) (h : Fin 8) (e : Fin 128) :
    query m d b r ⟨128 * h.val + e.val, by omega⟩
      = queries X Q (ix4 b r ⟨8 * d.val + h.val, gh_lt d h⟩ e) * (((Real.sqrt 128 * Real.log 2)⁻¹ : ℝ) : EReal) := by
  have hd : d.val < 4 := d.isLt
  unfold query
  rw [queries_apply, scale_eq]
  refine congrArg (· * _) (Finset.sum_congr rfl fun t _ => ?_)
  rw [H.x, H.q d t _ (by show d.val * 1024 + (128 * h.val + e.val) < 4096; omega)]
  refine congrArg (fun u => X _ * Q (ix2 t u)) (Fin.ext ?_)
  show d.val * 1024 + (128 * h.val + e.val) = (8 * d.val + h.val) * 128 + e.val
  omega

/-- The queries' weights are reals when the devices' blocks are. -/
theorem reals_of_blocks (H : Holds X Q K V O m) (h : ∀ d, Reals (argQ m d)) : Reals Q := fun j => by
  obtain ⟨t, u, rfl⟩ : ∃ (t : Fin 1024) (u : Fin 4096), j = ix2 t u := ⟨j 0, j 1, eq_ix2 j⟩
  have hu : u.val / 1024 < 4 := by omega
  obtain ⟨r, hr⟩ := h ⟨u.val / 1024, hu⟩ (ix2 t ⟨u.val % 1024, by omega⟩)
  rw [H.q _ _ _ (by show u.val / 1024 * 1024 + u.val % 1024 < 4096; omega)] at hr
  refine ⟨r, hr ▸ congrArg (fun v => Q (ix2 t v)) (Fin.ext ?_)⟩
  show u.val = u.val / 1024 * 1024 + u.val % 1024
  omega

/-- A head of the kernel is the head of the reference. -/
theorem mean_eq (H : Holds X Q K V O m) (hX : Reals X) (hQ : Reals Q) (hK : Reals K) (d : Dev nD) (b : Fin 4) (r : Fin 256) (h : Fin 8) (e : Fin 128) :
    mean m d b r h e = attend (scores (queries X Q) K) V (ix4 b r ⟨8 * d.val + h.val, gh_lt d h⟩ e) := by
  rw [attend_apply]
  obtain ⟨M, hM⟩ := peak_real _ (scores_real X Q K hX hQ hK) b ⟨8 * d.val + h.val, gh_lt d h⟩ r
  rw [hM]
  choose q hq using fun e => queries_real X Q hX hQ b r ⟨8 * d.val + h.val, gh_lt d h⟩ e
  choose k hk using fun (s : Fin 1024) (e : Fin 128) => hK (ix4 b s ⟨8 * d.val + h.val, gh_lt d h⟩ e)
  unfold mean weight
  simp only [query_eq H, H.k, H.v, scores_apply, hq, hk, word128]
  exact Softmax.head_eq q k (fun s => V (ix4 b s ⟨8 * d.val + h.val, gh_lt d h⟩ e)) M

/-- A sum over all columns is the sum over the devices of the sums over their blocks. -/
theorem sum_blocks (f : Fin 4096 → EReal) :
    ∑ u, f u = ∑ d : Fin 4, ∑ t : Fin 1024, f ⟨d.val * 1024 + t.val, by omega⟩ := by
  rw [← Fintype.sum_prod_type' (fun (d : Fin 4) (t : Fin 1024) => f ⟨d.val * 1024 + t.val, by omega⟩)]
  refine (Fintype.sum_equiv (finProdFinEquiv : Fin 4 × Fin 1024 ≃ Fin (4 * 1024)) _ f fun p => ?_).symm
  refine congrArg f (Fin.ext ?_)
  show p.1.val * 1024 + p.2.val = p.2.val + 1024 * p.1.val
  omega

/-- The kernel's result is the reference's. -/
theorem out_eq (H : Holds X Q K V O m) (hX : Reals X) (hQ : Reals Q) (hK : Reals K) (c : Dev nD) :
    outAt m c = refOut X Q K V O := by
  funext j
  obtain ⟨i, n, rfl⟩ : ∃ (i n : Fin 1024), j = ix2 i n := ⟨j 0, j 1, eq_ix2 j⟩
  obtain ⟨b, r, rfl⟩ : ∃ (b : Fin 4) (r : Fin 256), i = ⟨b.val * 256 + r.val, by omega⟩ :=
    ⟨⟨i.val / 256, by omega⟩, ⟨i.val % 256, by omega⟩, Fin.ext (by show i.val = i.val / 256 * 256 + i.val % 256; omega)⟩
  refine (outAt_apply m c b r n).trans ?_
  show (∑ d : Dev nD, part m d b r n : EReal) = refOut X Q K V O (ix2 ⟨b.val * 256 + r.val, by omega⟩ n)
  unfold refOut
  rw [project_apply, sum_blocks]
  refine Finset.sum_congr rfl fun d _ => Finset.sum_congr rfl fun t _ => ?_
  have hd : d.val < 4 := d.isLt
  rw [mean_eq H hX hQ hK, H.o d t n (by omega)]
  have e1 : (⟨8 * d.val + t.val / 128, by omega⟩ : Fin 32) = ⟨(d.val * 1024 + t.val) / 128, by omega⟩ :=
    Fin.ext (by show 8 * d.val + t.val / 128 = (d.val * 1024 + t.val) / 128; omega)
  have e2 : (⟨t.val % 128, by omega⟩ : Fin 128) = ⟨(d.val * 1024 + t.val) % 128, by omega⟩ :=
    Fin.ext (by show t.val % 128 = (d.val * 1024 + t.val) % 128; omega)
  exact congrArg (· * _) (congrArg₂ (fun h e => attend (scores (queries X Q) K) V (ix4 b r h e)) e1 e2)

end Cert.Values
-- ==== Proof.Finite.lean ====
module
public import proofs.«01_k».proof.Proof.Values
public import proofs.«01_k».proof.Pre_finite_scores_KernelIdeal
public import proofs.«01_k».proof.Pre_finite_scores_ReferenceIdeal
public import Idealize.ShloMosaic.Lib.ReduceAll

/-! The precondition, read back: the rows, the queries' weights and the keys of a device that meets it are real numbers. -/

@[expose] public section

noncomputable section

namespace Cert.Finite

open Idealize.ShloMosaic Cert.Values

/-- The shape facts the precondition is stated with, -/
theorem facts : Cert.Pre_finite_scores_KernelIdeal.Facts where
  bcast_S_S1024x1024 := by decide
  reducesTo_S1024x1024_S_d0_1 := by decide
  h_S_ := by decide
  bcast_S_S4x1024x32x128 := by decide
  reducesTo_S4x1024x32x128_S_d0_1_2_3 := by decide

/-- and those of the same predicate on whole arrays. -/
theorem facts_whole : Cert.Pre_finite_scores_ReferenceIdeal.Facts where
  bcast_S_S1024x1024 := by decide
  reducesTo_S1024x1024_S_d0_1 := by decide
  h_S_ := by decide
  bcast_S_S1024x4096 := by decide
  reducesTo_S1024x4096_S_d0_1 := by decide
  bcast_S_S4x1024x32x128 := by decide
  reducesTo_S4x1024x32x128_S_d0_1_2_3 := by decide

theorem wordInf : Ideal.ofBits .f32 0x7F800000#32 = (⊤ : EReal) := by
  simp [Ideal.ofBits, Ideal.ieee]

/-- An extended real below infinity in size is a real. -/
theorem real_of_below (x : EReal) (h : Ideal.cmp .olt (max x (-x)) (Ideal.ofBits .f32 0x7F800000#32) = 1#1) : ∃ r : ℝ, x = r := by
  rw [wordInf] at h
  have hlt : max x (-x) < ⊤ := by
    by_contra hn
    simp [Ideal.cmp, hn] at h
  obtain ⟨h1, h2⟩ := max_lt_iff.mp hlt
  refine ⟨x.toReal, (EReal.coe_toReal h1.ne ?_).symm⟩
  rintro rfl
  simp at h2

theorem and_one (a b : BitVec 1) (h : IntOp.andi a b = 1#1) : a = 1#1 ∧ b = 1#1 := by
  revert a b; decide

instance : Subsingleton (⟨0, ![]⟩ : Shape).Idx := ⟨fun a b => funext fun i => i.elim0⟩

open Cert.Pre_finite_scores_KernelIdeal in
/-- What the precondition says of one device's arguments. -/
theorem reals [Facts] (x q o : FVec Ideal S1024x1024 .f32) (k v : FVec Ideal S4x1024x32x128 .f32)
    (h : fn (F := Ideal) x q k v o = fun _ => 1#1) : Reals x ∧ Reals q ∧ Reals k := by
  have h0 := congrFun h ix0
  obtain ⟨h1, hk⟩ := and_one _ _ h0
  obtain ⟨hx, hq⟩ := and_one _ _ h1
  exact ⟨fun i => real_of_below _ (Host.reduce_andi_all _ _ _ _ _ hx i), fun i => real_of_below _ (Host.reduce_andi_all _ _ _ _ _ hq i),
    fun i => real_of_below _ (Host.reduce_andi_all _ _ _ _ _ hk i)⟩

end Cert.Finite
-- ==== Proof.Claims.lean ====
module
public import proofs.«01_k».proof.Defs
public import proofs.«01_k».proof.Proof.Twin
public import proofs.«01_k».proof.Proof.Finite
public import Idealize.ShloMosaic.Lib.Quiescent

/-! The claims, each from the run it is read off. -/

@[expose] public section

noncomputable section

namespace Cert.Proof.Claims

open Idealize.ShloMosaic Idealize.SL.Sem

/-- The compiled kernel runs, its arguments unchanged, every counter back at zero. -/
theorem frame_p : Cert.quiescent_Kernel := fun m ρ _ => Cert.Twin.run_frame m ρ

/-- So does the kernel on the extended reals, on all arguments, -/
theorem frame_pi : Cert.quiescent_KernelIdeal := fun m ρ _ => Cert.KernelIdeal.Attn.run_frame m ρ

/-- and so on those that meet the precondition. -/
theorem frame_pi_pre : @Cert.quiescent_KernelIdeal_pre_finite_scores_KernelIdeal _ Finite.facts :=
  fun m ρ _ => Cert.KernelIdeal.Attn.run_frame m ρ

/-- And the reference: it has no counters. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Attn.run_main m ρ)

theorem frame_ri_pre : @Cert.quiescent_ReferenceIdeal_pre_finite_scores_ReferenceIdeal _ Finite.facts_whole :=
  fun m ρ _ => frame_ri m ρ trivial

/-- The named constant is the real its name stands for. -/
theorem preserves : Cert.preserves_Kernel_KernelIdeal := IdealRules.named_const.statement _ _ _ _ _ rfl

open Cert.KernelIdeal Cert.KernelIdeal.Gen Cert.KernelIdeal.Attn in
/-- On real rows, weights of the queries and keys, every device of the kernel ends with the reference's result. -/
theorem algebraic : @Cert.algebraic_KernelIdeal_ReferenceIdeal_pre_finite_scores_KernelIdeal _ _ Finite.facts := by
  intro m ρ m' ρ' hpre hagree
  have hr := fun c => @Finite.reals Finite.facts _ _ _ _ _ (hpre c)
  have H : Values.Holds (m' (((0 : Dev Cert.ReferenceIdeal.nD).tc : Thread _ _).loc Cert.ReferenceIdeal.main_arg0))
      (m' (((0 : Dev Cert.ReferenceIdeal.nD).tc : Thread _ _).loc Cert.ReferenceIdeal.main_arg1))
      (m' (((0 : Dev Cert.ReferenceIdeal.nD).tc : Thread _ _).loc Cert.ReferenceIdeal.main_arg2))
      (m' (((0 : Dev Cert.ReferenceIdeal.nD).tc : Thread _ _).loc Cert.ReferenceIdeal.main_arg3))
      (m' (((0 : Dev Cert.ReferenceIdeal.nD).tc : Thread _ _).loc Cert.ReferenceIdeal.main_arg4)) m := {
    x := fun d => (hagree d).1
    k := fun d => (hagree d).2.2.1
    v := fun d => (hagree d).2.2.2.1
    q := fun d t u h => (congrFun (hagree d).2.1 (ix2 t u)).trans
      (congrArg (m' (((0 : Dev Cert.ReferenceIdeal.nD).tc : Thread _ _).loc Cert.ReferenceIdeal.main_arg1)) (funext fun a => by fin_cases a <;> rfl))
    o := fun d t n h => (congrFun (hagree d).2.2.2.2 (ix2 t n)).trans
      (congrArg (m' (((0 : Dev Cert.ReferenceIdeal.nD).tc : Thread _ _).loc Cert.ReferenceIdeal.main_arg4)) (funext fun a => by fin_cases a <;> rfl)) }
  have hX : Values.Reals (m' (((0 : Dev Cert.ReferenceIdeal.nD).tc : Thread _ _).loc Cert.ReferenceIdeal.main_arg0)) := by
    rw [← (hagree 0).1]; exact (hr 0).1
  have hK : Values.Reals (m' (((0 : Dev Cert.ReferenceIdeal.nD).tc : Thread _ _).loc Cert.ReferenceIdeal.main_arg2)) := by
    rw [← (hagree 0).2.2.1]; exact (hr 0).2.2
  have hQ : Values.Reals (m' (((0 : Dev Cert.ReferenceIdeal.nD).tc : Thread _ _).loc Cert.ReferenceIdeal.main_arg1)) :=
    Values.reals_of_blocks H fun d => (hr d).2.1
  refine ⟨Cert.ReferenceIdeal.Attn.refOut (F := Ideal) _ _ _ _ _, ?_, (θ_run Cert.ReferenceIdeal.defs _ _).mono (fun _ h => h 0)
    (Cert.ReferenceIdeal.Attn.run_main (F := Ideal) m' ρ')⟩
  refine (θ_run defs _ _).mono (fun r h c => ?_) (run_main (F := Ideal) m ρ)
  obtain ⟨hw, h2, h3⟩ := h.1 c
  exact ⟨(hw 3).trans ((finalA_out m c).trans (Values.out_eq H hX hQ hK c)), (hw 0).trans ((dats m 0 c).arrAt_in 0 rfl _),
    (hw 1).trans ((dats m 0 c).arrAt_in 1 rfl _), h2, h3, (hw 2).trans ((dats m 0 c).arrAt_in 2 rfl _)⟩

end Cert.Proof.Claims
-- ==== Proof.lean ====
module

public import proofs.«01_k».proof.Defs
public import proofs.«01_k».proof.Proof.Claims
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Finite.facts, Finite.facts_whole, Claims.frame_p, Claims.frame_pi, Claims.frame_pi_pre, Claims.frame_ri,
  Claims.frame_ri_pre, Claims.preserves, Claims.algebraic⟩

end Cert.Proof

end
